-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x256x8192 : Shape := ⟨3, ![2, 256, 8192]⟩
abbrev S16256x8192 : Shape := ⟨2, ![16256, 8192]⟩
abbrev S127x64 : Shape := ⟨2, ![127, 64]⟩
abbrev S2x256 : Shape := ⟨2, ![2, 256]⟩
abbrev S2x256x64x128 : Shape := ⟨4, ![2, 256, 64, 128]⟩
abbrev S_ : Shape := ⟨0, ![]⟩
abbrev S2x256x64 : Shape := ⟨3, ![2, 256, 64]⟩

class Facts : Prop where
  bitsLt_bf16_f32 : FTy.bits .bf16 < FTy.bits .f32
  shapeCasts_S2x256x8192_S2x256x64x128 : S2x256x8192.ShapeCasts S2x256x64x128
  reducesTo_S2x256x64x128_S2x256x64_d3 : S2x256x64x128.ReducesTo [3] S2x256x64
  h_S_ : 0 < S_.numel
  bcast_S_S2x256x64 : S_.BroadcastsInDim S2x256x64 (![] : Fin 0 → Fin S2x256x64.rank)
  bcast_S_S2x256 : S_.BroadcastsInDim S2x256 (![] : Fin 0 → Fin S2x256.rank)

variable [Facts]

def fn {F : FTy → Type} [FloatOps F] (main_arg0 : FVec F S2x256x8192 .bf16) (main_arg1 : FVec F S16256x8192 .fp8e4m3) (main_arg2 : FVec F S127x64 .f32) (main_arg3 : IVec S2x256 32) : IVec S2x256x64 1 × IVec S2x256 1 :=
  let main_v0 : FVec F S2x256x8192 .f32 := (extf .f32 · bitsLt_bf16_f32) main_arg0
  let main_v1 : FVec F S2x256x64x128 .f32 := shapeCast S2x256x64x128 main_v0 shapeCasts_S2x256x8192_S2x256x64x128
  let main_v2 : FVec F S2x256x64x128 .f32 := Host.absf main_v1
  let main_cst : FVec F S_ .f32 := constant S_ .f32 0xFF800000#32
  let main_v3 : FVec F S2x256x64 .f32 := (fun x v => Host.reduce FloatOps.maximumf x v reducesTo_S2x256x64x128_S2x256x64_d3 h_S_) main_v2 main_cst
  let main_cst_0 : FVec F S_ .f32 := constant S_ .f32 0x3B124925#32
  let main_v4 : FVec F S2x256x64 .f32 := broadcastInDim S2x256x64 ![] bcast_S_S2x256x64 main_cst_0
  let main_v5 : FVec F S2x256x64 .f32 := mulf main_v3 main_v4
  let main_cst_1 : FVec F S_ .f32 := constant S_ .f32 0x00000000#32
  let main_v6 : FVec F S2x256x64 .f32 := broadcastInDim S2x256x64 ![] bcast_S_S2x256x64 main_cst_1
  let main_v7 : IVec S2x256x64 1 := cmpf .oeq main_v3 main_v6
  let main_cst_2 : FVec F S_ .f32 := constant S_ .f32 0x00400000#32
  let main_v8 : FVec F S2x256x64 .f32 := broadcastInDim S2x256x64 ![] bcast_S_S2x256x64 main_cst_2
  let main_v9 : IVec S2x256x64 1 := cmpf .oge main_v5 main_v8
  let main_cst_3 : FVec F S_ .f32 := constant S_ .f32 0x7E800000#32
  let main_v10 : FVec F S2x256x64 .f32 := broadcastInDim S2x256x64 ![] bcast_S_S2x256x64 main_cst_3
  let main_v11 : IVec S2x256x64 1 := cmpf .olt main_v5 main_v10
  let main_v12 : IVec S2x256x64 1 := andi main_v9 main_v11
  let main_v13 : IVec S2x256x64 1 := ori main_v7 main_v12
  let main_c : IVec S_ 32 := constantI S_ 32 16256#32
  let main_v14 : IVec S2x256 32 := broadcastInDim S2x256 ![] bcast_S_S2x256 main_c
  let main_v15 : IVec S2x256 1 := cmpi .slt main_arg3 main_v14
  (main_v13, main_v15)
-- ==== Kernel.lean ====
abbrev S2x256x8192 : Shape := ⟨3, ![2, 256, 8192]⟩
abbrev S16256x8192 : Shape := ⟨2, ![16256, 8192]⟩
abbrev S127x64 : Shape := ⟨2, ![127, 64]⟩
abbrev S2x256 : Shape := ⟨2, ![2, 256]⟩
abbrev S1x512 : Shape := ⟨2, ![1, 512]⟩
abbrev S2x256x64 : Shape := ⟨3, ![2, 256, 64]⟩
abbrev S512x8192 : Shape := ⟨2, ![512, 8192]⟩
abbrev S8x512 : Shape := ⟨2, ![8, 512]⟩
abbrev S256x64 : Shape := ⟨2, ![256, 64]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x256x64 : Shape := ⟨3, ![1, 256, 64]⟩
abbrev S1x1 : Shape := ⟨2, ![1, 1]⟩
abbrev S128x128 : Shape := ⟨2, ![128, 128]⟩
abbrev S512x512 : Shape := ⟨2, ![512, 512]⟩
abbrev S64x8x512 : Shape := ⟨3, ![64, 8, 512]⟩
abbrev S1x8x512 : Shape := ⟨3, ![1, 8, 512]⟩
abbrev S1x1x512 : Shape := ⟨3, ![1, 1, 512]⟩
abbrev S512 : Shape := ⟨1, ![512]⟩

abbrev nBuf : Space → Nat
  | .hbm => 9
  | .vmem => 12
  | .smem => 1
  | _ => 0

abbrev bufTy : (tb : Table) → Fin (tcTables nBuf tb) → BufTy
  | .hbm, ⟨0, _⟩ => ⟨S2x256x8192, .bf16⟩
  | .hbm, ⟨1, _⟩ => ⟨S16256x8192, .fp8e4m3⟩
  | .hbm, ⟨2, _⟩ => ⟨S127x64, .f32⟩
  | .hbm, ⟨3, _⟩ => ⟨S2x256, .i32⟩
  | .hbm, ⟨4, _⟩ => ⟨S1x512, .i32⟩
  | .hbm, ⟨5, _⟩ => ⟨S1x512, .f32⟩
  | .hbm, ⟨6, _⟩ => ⟨S2x256x8192, .fp8e4m3⟩
  | .hbm, ⟨7, _⟩ => ⟨S2x256x64, .f32⟩
  | .hbm, ⟨8, _⟩ => ⟨S2x256, .f32⟩
  | .local _ .vmem, ⟨0, _⟩ => ⟨S2x256x8192, .bf16⟩
  | .local _ .vmem, ⟨1, _⟩ => ⟨S512x8192, .fp8e4m3⟩
  | .local _ .vmem, ⟨2, _⟩ => ⟨S512x8192, .fp8e4m3⟩
  | .local _ .vmem, ⟨3, _⟩ => ⟨S1x512, .i32⟩
  | .local _ .vmem, ⟨4, _⟩ => ⟨S1x512, .f32⟩
  | .local _ .vmem, ⟨5, _⟩ => ⟨S2x256x8192, .fp8e4m3⟩
  | .local _ .vmem, ⟨6, _⟩ => ⟨S2x256x64, .f32⟩
  | .local _ .vmem, ⟨7, _⟩ => ⟨S512x8192, .bf16⟩
  | .local _ .vmem, ⟨8, _⟩ => ⟨S512x8192, .bf16⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .smem, ⟨0, _⟩ => ⟨S127x64, .f32⟩
  | _, _ => ⟨S2x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![32], ![false]⟩

def k0_off1 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v6 : Index := Scalar.indexCast v5
  let c0 : Index := 0#32
  ![v6.toNat, 0]
def k0_off2 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v16 : Index := Scalar.indexCast v5
  let c1 : Index := 1#32
  ![v16.toNat, 1]
def k0_off3 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v26 : Index := Scalar.indexCast v5
  let c2 : Index := 2#32
  ![v26.toNat, 2]
def k0_off4 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v36 : Index := Scalar.indexCast v5
  let c3 : Index := 3#32
  ![v36.toNat, 3]
def k0_off5 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v46 : Index := Scalar.indexCast v5
  let c4 : Index := 4#32
  ![v46.toNat, 4]
def k0_off6 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v56 : Index := Scalar.indexCast v5
  let c5 : Index := 5#32
  ![v56.toNat, 5]
def k0_off7 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v66 : Index := Scalar.indexCast v5
  let c6 : Index := 6#32
  ![v66.toNat, 6]
def k0_off8 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v76 : Index := Scalar.indexCast v5
  let c7 : Index := 7#32
  ![v76.toNat, 7]
def k0_off9 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v86 : Index := Scalar.indexCast v5
  let c8 : Index := 8#32
  ![v86.toNat, 8]
def k0_off10 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v96 : Index := Scalar.indexCast v5
  let c9 : Index := 9#32
  ![v96.toNat, 9]
def k0_off11 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v106 : Index := Scalar.indexCast v5
  let c10 : Index := 10#32
  ![v106.toNat, 10]
def k0_off12 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v116 : Index := Scalar.indexCast v5
  let c11 : Index := 11#32
  ![v116.toNat, 11]
def k0_off13 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v126 : Index := Scalar.indexCast v5
  let c12 : Index := 12#32
  ![v126.toNat, 12]
def k0_off14 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v136 : Index := Scalar.indexCast v5
  let c13 : Index := 13#32
  ![v136.toNat, 13]
def k0_off15 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v146 : Index := Scalar.indexCast v5
  let c14 : Index := 14#32
  ![v146.toNat, 14]
def k0_off16 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v156 : Index := Scalar.indexCast v5
  let c15 : Index := 15#32
  ![v156.toNat, 15]
def k0_off17 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v166 : Index := Scalar.indexCast v5
  let c16 : Index := 16#32
  ![v166.toNat, 16]
def k0_off18 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v176 : Index := Scalar.indexCast v5
  let c17 : Index := 17#32
  ![v176.toNat, 17]
def k0_off19 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v186 : Index := Scalar.indexCast v5
  let c18 : Index := 18#32
  ![v186.toNat, 18]
def k0_off20 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v196 : Index := Scalar.indexCast v5
  let c19 : Index := 19#32
  ![v196.toNat, 19]
def k0_off21 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v206 : Index := Scalar.indexCast v5
  let c20 : Index := 20#32
  ![v206.toNat, 20]
def k0_off22 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v216 : Index := Scalar.indexCast v5
  let c21 : Index := 21#32
  ![v216.toNat, 21]
def k0_off23 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v226 : Index := Scalar.indexCast v5
  let c22 : Index := 22#32
  ![v226.toNat, 22]
def k0_off24 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v236 : Index := Scalar.indexCast v5
  let c23 : Index := 23#32
  ![v236.toNat, 23]
def k0_off25 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v246 : Index := Scalar.indexCast v5
  let c24 : Index := 24#32
  ![v246.toNat, 24]
def k0_off26 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v256 : Index := Scalar.indexCast v5
  let c25 : Index := 25#32
  ![v256.toNat, 25]
def k0_off27 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v266 : Index := Scalar.indexCast v5
  let c26 : Index := 26#32
  ![v266.toNat, 26]
def k0_off28 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v276 : Index := Scalar.indexCast v5
  let c27 : Index := 27#32
  ![v276.toNat, 27]
def k0_off29 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v286 : Index := Scalar.indexCast v5
  let c28 : Index := 28#32
  ![v286.toNat, 28]
def k0_off30 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v296 : Index := Scalar.indexCast v5
  let c29 : Index := 29#32
  ![v296.toNat, 29]
def k0_off31 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v306 : Index := Scalar.indexCast v5
  let c30 : Index := 30#32
  ![v306.toNat, 30]
def k0_off32 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v316 : Index := Scalar.indexCast v5
  let c31 : Index := 31#32
  ![v316.toNat, 31]
def k0_off33 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v326 : Index := Scalar.indexCast v5
  let c32 : Index := 32#32
  ![v326.toNat, 32]
def k0_off34 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v336 : Index := Scalar.indexCast v5
  let c33 : Index := 33#32
  ![v336.toNat, 33]
def k0_off35 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v346 : Index := Scalar.indexCast v5
  let c34 : Index := 34#32
  ![v346.toNat, 34]
def k0_off36 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v356 : Index := Scalar.indexCast v5
  let c35 : Index := 35#32
  ![v356.toNat, 35]
def k0_off37 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v366 : Index := Scalar.indexCast v5
  let c36 : Index := 36#32
  ![v366.toNat, 36]
def k0_off38 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v376 : Index := Scalar.indexCast v5
  let c37 : Index := 37#32
  ![v376.toNat, 37]
def k0_off39 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v386 : Index := Scalar.indexCast v5
  let c38 : Index := 38#32
  ![v386.toNat, 38]
def k0_off40 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v396 : Index := Scalar.indexCast v5
  let c39 : Index := 39#32
  ![v396.toNat, 39]
def k0_off41 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v406 : Index := Scalar.indexCast v5
  let c40 : Index := 40#32
  ![v406.toNat, 40]
def k0_off42 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v416 : Index := Scalar.indexCast v5
  let c41 : Index := 41#32
  ![v416.toNat, 41]
def k0_off43 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v426 : Index := Scalar.indexCast v5
  let c42 : Index := 42#32
  ![v426.toNat, 42]
def k0_off44 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v436 : Index := Scalar.indexCast v5
  let c43 : Index := 43#32
  ![v436.toNat, 43]
def k0_off45 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v446 : Index := Scalar.indexCast v5
  let c44 : Index := 44#32
  ![v446.toNat, 44]
def k0_off46 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v456 : Index := Scalar.indexCast v5
  let c45 : Index := 45#32
  ![v456.toNat, 45]
def k0_off47 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v466 : Index := Scalar.indexCast v5
  let c46 : Index := 46#32
  ![v466.toNat, 46]
def k0_off48 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v476 : Index := Scalar.indexCast v5
  let c47 : Index := 47#32
  ![v476.toNat, 47]
def k0_off49 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v486 : Index := Scalar.indexCast v5
  let c48 : Index := 48#32
  ![v486.toNat, 48]
def k0_off50 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v496 : Index := Scalar.indexCast v5
  let c49 : Index := 49#32
  ![v496.toNat, 49]
def k0_off51 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v506 : Index := Scalar.indexCast v5
  let c50 : Index := 50#32
  ![v506.toNat, 50]
def k0_off52 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v516 : Index := Scalar.indexCast v5
  let c51 : Index := 51#32
  ![v516.toNat, 51]
def k0_off53 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v526 : Index := Scalar.indexCast v5
  let c52 : Index := 52#32
  ![v526.toNat, 52]
def k0_off54 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v536 : Index := Scalar.indexCast v5
  let c53 : Index := 53#32
  ![v536.toNat, 53]
def k0_off55 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v546 : Index := Scalar.indexCast v5
  let c54 : Index := 54#32
  ![v546.toNat, 54]
def k0_off56 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v556 : Index := Scalar.indexCast v5
  let c55 : Index := 55#32
  ![v556.toNat, 55]
def k0_off57 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v566 : Index := Scalar.indexCast v5
  let c56 : Index := 56#32
  ![v566.toNat, 56]
def k0_off58 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v576 : Index := Scalar.indexCast v5
  let c57 : Index := 57#32
  ![v576.toNat, 57]
def k0_off59 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v586 : Index := Scalar.indexCast v5
  let c58 : Index := 58#32
  ![v586.toNat, 58]
def k0_off60 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v596 : Index := Scalar.indexCast v5
  let c59 : Index := 59#32
  ![v596.toNat, 59]
def k0_off61 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v606 : Index := Scalar.indexCast v5
  let c60 : Index := 60#32
  ![v606.toNat, 60]
def k0_off62 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v616 : Index := Scalar.indexCast v5
  let c61 : Index := 61#32
  ![v616.toNat, 61]
def k0_off63 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v626 : Index := Scalar.indexCast v5
  let c62 : Index := 62#32
  ![v626.toNat, 62]
def k0_off64 (i : grid0.Coords) (c0_i32_1 : BitVec 32) : Fin 2 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let c126_i32 : BitVec 32 := 126#32
  let v5 : BitVec 32 := Scalar.minsi v4 c126_i32
  let v636 : Index := Scalar.indexCast v5
  let c63 : Index := 63#32
  ![v636.toNat, 63]
def k0_cond2 (i : grid0.Coords) : BitVec 1 :=
  let arg0 : BitVec 32 := BitVec.ofNat 32 (i 0).val
  let c31_i32 : BitVec 32 := 31#32
  let v2620 : BitVec 1 := Scalar.cmpi .eq arg0 c31_i32
  let v2621 : BitVec 32 := Scalar.extui v2620
  let c0_i32_1184 : BitVec 32 := 0#32
  let v2622 : BitVec 1 := Scalar.cmpi .ne v2621 c0_i32_1184
  v2622

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S127x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x256x8192 : Shape := ⟨3, ![2, 256, 8192]⟩
abbrev S16256x8192 : Shape := ⟨2, ![16256, 8192]⟩
abbrev S127x64 : Shape := ⟨2, ![127, 64]⟩
abbrev S2x256 : Shape := ⟨2, ![2, 256]⟩
abbrev S2x256x64 : Shape := ⟨3, ![2, 256, 64]⟩
abbrev S2x256x64x128 : Shape := ⟨4, ![2, 256, 64, 128]⟩
abbrev S2x256x64x1 : Shape := ⟨4, ![2, 256, 64, 1]⟩
abbrev S512x8192 : Shape := ⟨2, ![512, 8192]⟩
abbrev S512 : Shape := ⟨1, ![512]⟩
abbrev S4096x8192 : Shape := ⟨2, ![4096, 8192]⟩
abbrev S32x128x8192 : Shape := ⟨3, ![32, 128, 8192]⟩
abbrev S32x64 : Shape := ⟨2, ![32, 64]⟩
abbrev S32x64x1 : Shape := ⟨3, ![32, 64, 1]⟩
abbrev S32x64x128 : Shape := ⟨3, ![32, 64, 128]⟩
abbrev S32x8192 : Shape := ⟨2, ![32, 8192]⟩
abbrev S32x1x8192 : Shape := ⟨3, ![32, 1, 8192]⟩
abbrev S512x4096 : Shape := ⟨2, ![512, 4096]⟩
abbrev S512x1 : Shape := ⟨2, ![512, 1]⟩
abbrev S3968x8192 : Shape := ⟨2, ![3968, 8192]⟩
abbrev S31x128x8192 : Shape := ⟨3, ![31, 128, 8192]⟩
abbrev S31x64 : Shape := ⟨2, ![31, 64]⟩
abbrev S31x64x1 : Shape := ⟨3, ![31, 64, 1]⟩
abbrev S31x64x128 : Shape := ⟨3, ![31, 64, 128]⟩
abbrev S31x8192 : Shape := ⟨2, ![31, 8192]⟩
abbrev S31x1x8192 : Shape := ⟨3, ![31, 1, 8192]⟩
abbrev S512x3968 : Shape := ⟨2, ![512, 3968]⟩

abbrev nBuf : Space → Nat
  | .hbm => 7
  | .vmem => 7
  | .smem => 0
  | _ => 0

abbrev bufTy : (tb : Table) → Fin (tcTables nBuf tb) → BufTy
  | .hbm, ⟨0, _⟩ => ⟨S2x256x8192, .bf16⟩
  | .hbm, ⟨1, _⟩ => ⟨S16256x8192, .fp8e4m3⟩
  | .hbm, ⟨2, _⟩ => ⟨S127x64, .f32⟩
  | .hbm, ⟨3, _⟩ => ⟨S2x256, .i32⟩
  | .hbm, ⟨4, _⟩ => ⟨S2x256, .f32⟩
  | .hbm, ⟨5, _⟩ => ⟨S2x256x8192, .fp8e4m3⟩
  | .hbm, ⟨6, _⟩ => ⟨S2x256x64, .f32⟩
  | .local _ .vmem, ⟨0, _⟩ => ⟨S2x256x8192, .bf16⟩
  | .local _ .vmem, ⟨1, _⟩ => ⟨S16256x8192, .fp8e4m3⟩
  | .local _ .vmem, ⟨2, _⟩ => ⟨S127x64, .f32⟩
  | .local _ .vmem, ⟨3, _⟩ => ⟨S2x256, .i32⟩
  | .local _ .vmem, ⟨4, _⟩ => ⟨S2x256, .f32⟩
  | .local _ .vmem, ⟨5, _⟩ => ⟨S2x256x8192, .fp8e4m3⟩
  | .local _ .vmem, ⟨6, _⟩ => ⟨S2x256x64, .f32⟩
  | _, _ => ⟨S2x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S127x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BitsBody.lean ====
module

public import proofs.«01_k».proof.Proof.Gen.Kernel.Skeleton
public import proofs.«01_k».proof.Proof.Gen.Kernel.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def bodyRun (c : Dev nD) (i : grid0.Coords)
    (M1 : Memref sig .tc .vmem S2x256x8192 .bf16) (h1 : M1.IsWhole) (M2 : Memref sig .tc .vmem S512x8192 .fp8e4m3) (h2 : M2.IsWhole) (M3 : Memref sig .tc .smem S127x64 .f32) (h3 : M3.IsWhole) (M4 : Memref sig .tc .vmem S1x512 .i32) (h4 : M4.IsWhole) (M5 : Memref sig .tc .vmem S1x512 .f32) (h5 : M5.IsWhole) (M6 : Memref sig .tc .vmem S2x256x8192 .fp8e4m3) (h6 : M6.IsWhole) (M7 : Memref sig .tc .vmem S2x256x64 .f32) (h7 : M7.IsWhole) (M8 : Memref sig .tc .vmem S512x8192 .bf16) (h8 : M8.IsWhole) (M9 : Memref sig .tc .vmem S512x8192 .bf16) (h9 : M9.IsWhole) (M10 : Memref sig .tc .vmem S8x512 .f32) (h10 : M10.IsWhole) (M11 : Memref sig .tc .vmem S8x512 .f32) (h11 : M11.IsWhole) (M12 : Memref sig .tc .vmem S8x512 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M5 × Bf (F := F) c M6 × Bf (F := F) c M7 × Bf (F := F) c M8 × Bf (F := F) c M9 × Bf (F := F) c M10 × Bf (F := F) c M11 × Bf (F := F) c M12 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M1 f1 ∗ pt c M2 f2 ∗ pt c M3 f3 ∗ pt c M4 f4 ∗ pt c M5 (W.1) ∗ pt c M6 (W.2.1) ∗ pt c M7 (W.2.2.1) ∗ pt c M8 (W.2.2.2.1) ∗ pt c M9 (W.2.2.2.2.1) ∗ pt c M10 (W.2.2.2.2.2.1) ∗ pt c M11 (W.2.2.2.2.2.2.1) ∗ pt c M12 (W.2.2.2.2.2.2.2)) -∗ Q ⟨⟩))
        ⊢ wp frame (wpE (defs₀ (F := F)) Variants.none c none) E
            (cc0_fp8_linear_ce i M1 h1 M2 h2 M3 h3 M4 h4 M5 h5 M6 h6 M7 h7 M8 h8 M9 h9 M10 h10 M11 h11 M12 h12) Q } := by
  refine ⟨⟨?_, ?_, ?_, ?_, ?_, ?_, ?_, ?_⟩, fun E Q => ?run⟩
  case run =>
    iintro ⟨H1, H2, H3, H4, H5, H6, H7, H8, H9, H10, H11, H12, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Kernel.Hand

end
-- ==== Proof.BitsFrames.lean ====
/-
  The frame of the kernel: from any memory with zero counters every weakly fair execution of @main terminates without a
  fault, leaves the four argument arrays as they were and every semaphore counter at zero. One run of the body
  (`bodyRun`), whatever the buffers hold, serves every grid point; nothing is said here of the values computed.
-/
module

public import proofs.«01_k».proof.Proof.BitsBody
public import proofs.«01_k».proof.Proof.Gen.Kernel.Launch
public import proofs.«01_k».proof.Proof.Gen.Kernel.Points
public import Idealize.ShloMosaic.Lib.LaneScatter.Own

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at some contents is its buffer held at full share, and back. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have := LaneScatter.owns_raw (Ix := Unit) (Name := ℕ) (U := UR sig nD τ) (Lvl := ℕ) (c : Thread nD τ) M h X
  rw [LaneScatter.raw, h.set_eq_univ] at this
  exact this

theorem pt_owns (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  have := LaneScatter.raw_owns (Ix := Unit) (Name := ℕ) (U := UR sig nD τ) (Lvl := ℕ) (c : Thread nD τ) M (f := f) rfl
  rw [LaneScatter.raw, h.set_eq_univ] at this
  exact this

theorem pt_owns_some (c : Dev nD) {sp : Space} {S : Shape} {e : EltTy} (M : Memref sig .tc sp S e) (h : M.IsWhole) (f : Bf (F := F) c M) :
    (pt c M f : sProp 𝕄) ⊢ iprop(∃ X, owns (c : Thread nD τ) M fullShare X) := by
  iintro H
  iexists _
  iapply (pt_owns c M h f)
  iexact H

/-- Proof data that remembers nothing of the values: the arrays as the region finds them, any contents after a point. -/
def fdats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- The body at a point, from whatever its buffers hold, hands them back. -/
theorem body_any (c : Dev nD) (t : Fin cfg0.N) (R : sProp 𝕄) :
    iprop(Pipeline.ΦA spec0 c ∗ R ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X))
      ⊢ wp frame (wpE (defs₀ (F := F)) Variants.none c none) Set.univ (bodyAt0 t) fun _ =>
        iprop(Pipeline.ΦA spec0 c ∗ R ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X)) := by
  unfold Pipeline.ΦA
  rw [scopedRest0_eq]
  iintro ⟨⟨⟨⟨%f8, Q8⟩, ⟨%f9, Q9⟩, ⟨%f10, Q10⟩, ⟨%f11, Q11⟩, ⟨%f12, Q12⟩⟩, HR⟩, HO, ⟨%X0, H0⟩, ⟨%X1, H1⟩, ⟨%X2, H2⟩, ⟨%X3, H3⟩, ⟨%X4, H4⟩, ⟨%X5, H5⟩, ⟨%X6, H6⟩⟩
  iapply (bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    ((hstage0_0 ((cfg0.slots t 0).cast nbuf0_0)).unread X0) ((hstage0_1 ((cfg0.slots t 1).cast nbuf0_1)).unread X1) ((hstage0_2 ((cfg0.slots t 2).cast nbuf0_2)).unread X2) ((hstage0_3 ((cfg0.slots t 3).cast nbuf0_3)).unread X3) ((hstage0_4 ((cfg0.slots t 4).cast nbuf0_4)).unread X4) ((hstage0_5 ((cfg0.slots t 5).cast nbuf0_5)).unread X5) ((hstage0_6 ((cfg0.slots t 6).cast nbuf0_6)).unread X6) f8 f9 f10 f11 f12).2 Set.univ
  isplitl [H0]; · iapply (owns_pt c _ (hstage0_0 ((cfg0.slots t 0).cast nbuf0_0)) X0); iexact H0
  isplitl [H1]; · iapply (owns_pt c _ (hstage0_1 ((cfg0.slots t 1).cast nbuf0_1)) X1); iexact H1
  isplitl [H2]; · iapply (owns_pt c _ (hstage0_2 ((cfg0.slots t 2).cast nbuf0_2)) X2); iexact H2
  isplitl [H3]; · iapply (owns_pt c _ (hstage0_3 ((cfg0.slots t 3).cast nbuf0_3)) X3); iexact H3
  isplitl [H4]; · iapply (owns_pt c _ (hstage0_4 ((cfg0.slots t 4).cast nbuf0_4)) X4); iexact H4
  isplitl [H5]; · iapply (owns_pt c _ (hstage0_5 ((cfg0.slots t 5).cast nbuf0_5)) X5); iexact H5
  isplitl [H6]; · iapply (owns_pt c _ (hstage0_6 ((cfg0.slots t 6).cast nbuf0_6)) X6); iexact H6
  isplitl [Q8]; · iexact Q8
  isplitl [Q9]; · iexact Q9
  isplitl [Q10]; · iexact Q10
  isplitl [Q11]; · iexact Q11
  isplitl [Q12]; · iexact Q12
  iintro ⟨H0, H1, H2, H3, H4, H5, H6, Q8, Q9, Q10, Q11, Q12⟩
  isplitl [Q8 Q9 Q10 Q11 Q12 HR]
  · isplitr [HR]
    · isplitl [Q8]; · iexists _; iexact Q8
      isplitl [Q9]; · iexists _; iexact Q9
      isplitl [Q10]; · iexists _; iexact Q10
      isplitl [Q11]; · iexists _; iexact Q11
      iexists _; iexact Q12
    · iexact HR
  isplitl [HO]; · iexact HO
  isplitl [H0]; · iapply (pt_owns_some c _ (hstage0_0 ((cfg0.slots t 0).cast nbuf0_0))); iexact H0
  isplitl [H1]; · iapply (pt_owns_some c _ (hstage0_1 ((cfg0.slots t 1).cast nbuf0_1))); iexact H1
  isplitl [H2]; · iapply (pt_owns_some c _ (hstage0_2 ((cfg0.slots t 2).cast nbuf0_2))); iexact H2
  isplitl [H3]; · iapply (pt_owns_some c _ (hstage0_3 ((cfg0.slots t 3).cast nbuf0_3))); iexact H3
  isplitl [H4]; · iapply (pt_owns_some c _ (hstage0_4 ((cfg0.slots t 4).cast nbuf0_4))); iexact H4
  isplitl [H5]; · iapply (pt_owns_some c _ (hstage0_5 ((cfg0.slots t 5).cast nbuf0_5))); iexact H5
  iapply (pt_owns_some c _ (hstage0_6 ((cfg0.slots t 6).cast nbuf0_6))); iexact H6

/-- At every point the body runs from whatever its buffers hold and hands them back. -/
theorem body_obligation_any (c : Dev nD) :
    BodyObligationLoose (fdats m 0 c) (defs₀ (F := F)) Variants.none () Set.univ (fun _ => true) := by
  intro t
  rw [bigSep_W0]
  rw [show (fdats m 0 c).owesAt () t.succ = (fdats m 0 c).owesAt () t.castSucc from rfl]
  exact body_any c t ((fdats m 0 c).owesAt () t.castSucc)

set_option backward.isDefEq.respectTransparency.types false in
/-- The run: every input array as the region found it, every buffer the region bypasses and no later line writes as it
    was, every semaphore counter at zero. -/
theorem run_frame : θ_run defs (onTc (τ := τ) (main (F := F))) (s₀ m ρ)
    (fun r => Pipeline.RDat.FramePostR cfg0 (fun c => (fdats m 0 c).toRForget (fun _ => true)) {main_v2} (V m) r ∧ r.2.sem = fun _ => 0) :=
  Pipeline.θ_run_frame_around_T_forget cfgs (fdats m) 0 launch0 defs₀ Variants.none (fun _ => true) {main_v2} m ρ main
    (hbody := fun c => body_obligation_any m c)
    (hshare := fun c => (fdats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      subst hop
      rw [StableHlo.reshape_writes, Finset.mem_singleton] at hb
      rw [Finset.mem_singleton]
      by_contra hne
      exact StableHlo.devRef_ne_of_ne hne hb)
    (hmain := hmain m Variants.none) (hA := fun _ _ => rfl) (hΦ := fun _ _ => rfl)
    (Q' := fun r => Pipeline.RDat.FramePostR cfg0 (fun c => (fdats m 0 c).toRForget (fun _ => true)) {main_v2} (V m) r ∧ r.2.sem = fun _ => 0)
    (hQ' := fun _ h => h)

/-- The frame: the argument arrays end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1.arr_in c 0 rfl).trans (V_main_arg0 m c), (h.1.arr_in c 1 rfl).trans (V_main_arg1 m c),
      (h.1.arr_in c 2 rfl).trans (V_main_arg2 m c),
      ((h.1 c).2 main_arg3 (by decide)).trans (V_main_arg3 m c)⟩, h.2⟩) (run_frame m ρ)

end Cert.Kernel.Hand

end
-- ==== Proof.Body.lean ====
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def bodyRun (c : Dev nD) (i : grid0.Coords)
    (M1 : Memref sig .tc .vmem S2x256x8192 .bf16) (h1 : M1.IsWhole) (M2 : Memref sig .tc .vmem S512x8192 .fp8e4m3) (h2 : M2.IsWhole) (M3 : Memref sig .tc .smem S127x64 .f32) (h3 : M3.IsWhole) (M4 : Memref sig .tc .vmem S1x512 .i32) (h4 : M4.IsWhole) (M5 : Memref sig .tc .vmem S1x512 .f32) (h5 : M5.IsWhole) (M6 : Memref sig .tc .vmem S2x256x8192 .fp8e4m3) (h6 : M6.IsWhole) (M7 : Memref sig .tc .vmem S2x256x64 .f32) (h7 : M7.IsWhole) (M8 : Memref sig .tc .vmem S512x8192 .bf16) (h8 : M8.IsWhole) (M9 : Memref sig .tc .vmem S512x8192 .bf16) (h9 : M9.IsWhole) (M10 : Memref sig .tc .vmem S8x512 .f32) (h10 : M10.IsWhole) (M11 : Memref sig .tc .vmem S8x512 .f32) (h11 : M11.IsWhole) (M12 : Memref sig .tc .vmem S8x512 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M5 × Bf (F := F) c M6 × Bf (F := F) c M7 × Bf (F := F) c M8 × Bf (F := F) c M9 × Bf (F := F) c M10 × Bf (F := F) c M11 × Bf (F := F) c M12 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M1 f1 ∗ pt c M2 f2 ∗ pt c M3 f3 ∗ pt c M4 f4 ∗ pt c M5 (W.1) ∗ pt c M6 (W.2.1) ∗ pt c M7 (W.2.2.1) ∗ pt c M8 (W.2.2.2.1) ∗ pt c M9 (W.2.2.2.2.1) ∗ pt c M10 (W.2.2.2.2.2.1) ∗ pt c M11 (W.2.2.2.2.2.2.1) ∗ pt c M12 (W.2.2.2.2.2.2.2)) -∗ Q ⟨⟩))
        ⊢ wp frame (wpE (defs₀ (F := F)) Variants.none c none) E
            (cc0_fp8_linear_ce i M1 h1 M2 h2 M3 h3 M4 h4 M5 h5 M6 h6 M7 h7 M8 h8 M9 h9 M10 h10 M11 h11 M12 h12) Q } := by
  refine ⟨⟨?_, ?_, ?_, ?_, ?_, ?_, ?_, ?_⟩, fun E Q => ?run⟩
  case run =>
    iintro ⟨H1, H2, H3, H4, H5, H6, H7, H8, H9, H10, H11, H12, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Hand

end
-- ==== Proof.Frames.lean ====
/-
  The frame of the kernel: from any memory with zero counters every weakly fair execution of @main terminates without a
  fault, leaves the four argument arrays as they were and every semaphore counter at zero. One run of the body
  (`bodyRun`), whatever the buffers hold, serves every grid point; nothing is said here of the values computed.
-/
module

public import proofs.«01_k».proof.Proof.Body
public import proofs.«01_k».proof.Proof.Gen.KernelIdeal.Launch
public import proofs.«01_k».proof.Proof.Gen.KernelIdeal.Points
public import Idealize.ShloMosaic.Lib.LaneScatter.Own

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at some contents is its buffer held at full share, and back. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have := LaneScatter.owns_raw (Ix := Unit) (Name := ℕ) (U := UR sig nD τ) (Lvl := ℕ) (c : Thread nD τ) M h X
  rw [LaneScatter.raw, h.set_eq_univ] at this
  exact this

theorem pt_owns (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  have := LaneScatter.raw_owns (Ix := Unit) (Name := ℕ) (U := UR sig nD τ) (Lvl := ℕ) (c : Thread nD τ) M (f := f) rfl
  rw [LaneScatter.raw, h.set_eq_univ] at this
  exact this

theorem pt_owns_some (c : Dev nD) {sp : Space} {S : Shape} {e : EltTy} (M : Memref sig .tc sp S e) (h : M.IsWhole) (f : Bf (F := F) c M) :
    (pt c M f : sProp 𝕄) ⊢ iprop(∃ X, owns (c : Thread nD τ) M fullShare X) := by
  iintro H
  iexists _
  iapply (pt_owns c M h f)
  iexact H

/-- Proof data that remembers nothing of the values: the arrays as the region finds them, any contents after a point. -/
def fdats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- The body at a point, from whatever its buffers hold, hands them back. -/
theorem body_any (c : Dev nD) (t : Fin cfg0.N) (R : sProp 𝕄) :
    iprop(Pipeline.ΦA spec0 c ∗ R ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X))
      ⊢ wp frame (wpE (defs₀ (F := F)) Variants.none c none) Set.univ (bodyAt0 t) fun _ =>
        iprop(Pipeline.ΦA spec0 c ∗ R ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X)) := by
  unfold Pipeline.ΦA
  rw [scopedRest0_eq]
  iintro ⟨⟨⟨⟨%f8, Q8⟩, ⟨%f9, Q9⟩, ⟨%f10, Q10⟩, ⟨%f11, Q11⟩, ⟨%f12, Q12⟩⟩, HR⟩, HO, ⟨%X0, H0⟩, ⟨%X1, H1⟩, ⟨%X2, H2⟩, ⟨%X3, H3⟩, ⟨%X4, H4⟩, ⟨%X5, H5⟩, ⟨%X6, H6⟩⟩
  iapply (bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    ((hstage0_0 ((cfg0.slots t 0).cast nbuf0_0)).unread X0) ((hstage0_1 ((cfg0.slots t 1).cast nbuf0_1)).unread X1) ((hstage0_2 ((cfg0.slots t 2).cast nbuf0_2)).unread X2) ((hstage0_3 ((cfg0.slots t 3).cast nbuf0_3)).unread X3) ((hstage0_4 ((cfg0.slots t 4).cast nbuf0_4)).unread X4) ((hstage0_5 ((cfg0.slots t 5).cast nbuf0_5)).unread X5) ((hstage0_6 ((cfg0.slots t 6).cast nbuf0_6)).unread X6) f8 f9 f10 f11 f12).2 Set.univ
  isplitl [H0]; · iapply (owns_pt c _ (hstage0_0 ((cfg0.slots t 0).cast nbuf0_0)) X0); iexact H0
  isplitl [H1]; · iapply (owns_pt c _ (hstage0_1 ((cfg0.slots t 1).cast nbuf0_1)) X1); iexact H1
  isplitl [H2]; · iapply (owns_pt c _ (hstage0_2 ((cfg0.slots t 2).cast nbuf0_2)) X2); iexact H2
  isplitl [H3]; · iapply (owns_pt c _ (hstage0_3 ((cfg0.slots t 3).cast nbuf0_3)) X3); iexact H3
  isplitl [H4]; · iapply (owns_pt c _ (hstage0_4 ((cfg0.slots t 4).cast nbuf0_4)) X4); iexact H4
  isplitl [H5]; · iapply (owns_pt c _ (hstage0_5 ((cfg0.slots t 5).cast nbuf0_5)) X5); iexact H5
  isplitl [H6]; · iapply (owns_pt c _ (hstage0_6 ((cfg0.slots t 6).cast nbuf0_6)) X6); iexact H6
  isplitl [Q8]; · iexact Q8
  isplitl [Q9]; · iexact Q9
  isplitl [Q10]; · iexact Q10
  isplitl [Q11]; · iexact Q11
  isplitl [Q12]; · iexact Q12
  iintro ⟨H0, H1, H2, H3, H4, H5, H6, Q8, Q9, Q10, Q11, Q12⟩
  isplitl [Q8 Q9 Q10 Q11 Q12 HR]
  · isplitr [HR]
    · isplitl [Q8]; · iexists _; iexact Q8
      isplitl [Q9]; · iexists _; iexact Q9
      isplitl [Q10]; · iexists _; iexact Q10
      isplitl [Q11]; · iexists _; iexact Q11
      iexists _; iexact Q12
    · iexact HR
  isplitl [HO]; · iexact HO
  isplitl [H0]; · iapply (pt_owns_some c _ (hstage0_0 ((cfg0.slots t 0).cast nbuf0_0))); iexact H0
  isplitl [H1]; · iapply (pt_owns_some c _ (hstage0_1 ((cfg0.slots t 1).cast nbuf0_1))); iexact H1
  isplitl [H2]; · iapply (pt_owns_some c _ (hstage0_2 ((cfg0.slots t 2).cast nbuf0_2))); iexact H2
  isplitl [H3]; · iapply (pt_owns_some c _ (hstage0_3 ((cfg0.slots t 3).cast nbuf0_3))); iexact H3
  isplitl [H4]; · iapply (pt_owns_some c _ (hstage0_4 ((cfg0.slots t 4).cast nbuf0_4))); iexact H4
  isplitl [H5]; · iapply (pt_owns_some c _ (hstage0_5 ((cfg0.slots t 5).cast nbuf0_5))); iexact H5
  iapply (pt_owns_some c _ (hstage0_6 ((cfg0.slots t 6).cast nbuf0_6))); iexact H6

/-- At every point the body runs from whatever its buffers hold and hands them back. -/
theorem body_obligation_any (c : Dev nD) :
    BodyObligationLoose (fdats m 0 c) (defs₀ (F := F)) Variants.none () Set.univ (fun _ => true) := by
  intro t
  rw [bigSep_W0]
  rw [show (fdats m 0 c).owesAt () t.succ = (fdats m 0 c).owesAt () t.castSucc from rfl]
  exact body_any c t ((fdats m 0 c).owesAt () t.castSucc)

set_option backward.isDefEq.respectTransparency.types false in
/-- The run: every input array as the region found it, every buffer the region bypasses and no later line writes as it
    was, every semaphore counter at zero. -/
theorem run_frame : θ_run defs (onTc (τ := τ) (main (F := F))) (s₀ m ρ)
    (fun r => Pipeline.RDat.FramePostR cfg0 (fun c => (fdats m 0 c).toRForget (fun _ => true)) {main_v2} (V m) r ∧ r.2.sem = fun _ => 0) :=
  Pipeline.θ_run_frame_around_T_forget cfgs (fdats m) 0 launch0 defs₀ Variants.none (fun _ => true) {main_v2} m ρ main
    (hbody := fun c => body_obligation_any m c)
    (hshare := fun c => (fdats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      subst hop
      rw [StableHlo.reshape_writes, Finset.mem_singleton] at hb
      rw [Finset.mem_singleton]
      by_contra hne
      exact StableHlo.devRef_ne_of_ne hne hb)
    (hmain := hmain m Variants.none) (hA := fun _ _ => rfl) (hΦ := fun _ _ => rfl)
    (Q' := fun r => Pipeline.RDat.FramePostR cfg0 (fun c => (fdats m 0 c).toRForget (fun _ => true)) {main_v2} (V m) r ∧ r.2.sem = fun _ => 0)
    (hQ' := fun _ h => h)

/-- The frame: the argument arrays end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1.arr_in c 0 rfl).trans (V_main_arg0 m c), (h.1.arr_in c 1 rfl).trans (V_main_arg1 m c),
      (h.1.arr_in c 2 rfl).trans (V_main_arg2 m c),
      ((h.1 c).2 main_arg3 (by decide)).trans (V_main_arg3 m c)⟩, h.2⟩) (run_frame m ρ)

end Cert.KernelIdeal.Hand

end
-- ==== Proof.Pieces.lean ====
/-
  What one run of the body leaves in the buffers it writes group by group, said once for every group: the written pieces
  are those of a function of the group's number.
-/
module

public import proofs.«01_k».proof.Proof.Body
public import Idealize.ShloMosaic.Lib.Writes
public import Idealize.ShloMosaic.Lib.WholeRead
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The list of the first `n` values of `f`, the last first: the order in which pieces are recorded. -/
def genL {α : Type} (f : ℕ → α) : ℕ → List α
  | 0 => []
  | n + 1 => f n :: genL f n

theorem mem_genL {α : Type} {f : ℕ → α} {n : ℕ} {p : α} : p ∈ genL f n ↔ ∃ k < n, p = f k := by
  induction n with
  | zero => simp [genL]
  | succ n ih =>
    simp only [genL, List.mem_cons, ih]
    constructor
    · rintro (rfl | ⟨k, hk, rfl⟩)
      · exact ⟨n, by omega, rfl⟩
      · exact ⟨k, by omega, rfl⟩
    · rintro ⟨k, hk, rfl⟩
      rcases Nat.lt_succ_iff_lt_or_eq.mp hk with h | rfl
      · exact Or.inr ⟨k, h, rfl⟩
      · exact Or.inl rfl

/-- Where group `k` of the activations lies: 64 groups of 128 lanes in each of the two halves. -/
def off6 (k : ℕ) : Fin 3 → ℕ := ![k / 64 % 2, 0, 128 * (k % 64)]

theorem inb6 (k : ℕ) : ∀ a, off6 k a + S1x256x128.size a ≤ S2x256x8192.size a := by
  intro a
  fin_cases a
  · show k / 64 % 2 + 1 ≤ 2; omega
  · show 0 + 256 ≤ 256; omega
  · show 128 * (k % 64) + 128 ≤ 8192; omega

/-- Where group `k` lies once the two halves are stacked. -/
def off8 (k : ℕ) : Fin 2 → ℕ := ![256 * (k / 64 % 2), 128 * (k % 64)]

theorem inb8 (k : ℕ) : ∀ a, off8 k a + S256x128.size a ≤ S512x8192.size a := by
  intro a
  fin_cases a
  · show 256 * (k / 64 % 2) + 256 ≤ 512; omega
  · show 128 * (k % 64) + 128 ≤ 8192; omega

/-- Where block `k` of the weights' tile lies: four rows of 64 blocks. -/
def off9 (k : ℕ) : Fin 2 → ℕ := ![128 * (k / 64 % 4), 128 * (k % 64)]

theorem inb9 (k : ℕ) : ∀ a, off9 k a + S128x128.size a ≤ S512x8192.size a := by
  intro a
  fin_cases a
  · show 128 * (k / 64 % 4) + 128 ≤ 512; omega
  · show 128 * (k % 64) + 128 ≤ 8192; omega

/-- Which weight scale block `k` of grid point `i` reads. -/
def offw (i : grid0.Coords) (k : ℕ) : Fin 2 → ℕ :=
  ![(Scalar.indexCast (Scalar.minsi (Scalar.addi (Scalar.muli (BitVec.ofNat 32 (i 0).val) 4#32) (BitVec.ofNat 32 (k / 64 % 4))) 126#32)).toNat, k % 64]

theorem inbw (i : grid0.Coords) (k : ℕ) : ∀ a, offw i k a + S1x1.size a ≤ S127x64.size a := by
  intro a
  fin_cases a
  · exact k0_off1_inb i ⟨k / 64 % 4, by omega⟩ 0
  · show k % 64 + 1 ≤ 64; omega

variable (c : Dev nD) (i : grid0.Coords)
    (M1 : Memref sig .tc .vmem S2x256x8192 .bf16) (h1 : M1.IsWhole) (M2 : Memref sig .tc .vmem S512x8192 .fp8e4m3) (h2 : M2.IsWhole) (M3 : Memref sig .tc .smem S127x64 .f32) (h3 : M3.IsWhole) (M4 : Memref sig .tc .vmem S1x512 .i32) (h4 : M4.IsWhole) (M5 : Memref sig .tc .vmem S1x512 .f32) (h5 : M5.IsWhole) (M6 : Memref sig .tc .vmem S2x256x8192 .fp8e4m3) (h6 : M6.IsWhole) (M7 : Memref sig .tc .vmem S2x256x64 .f32) (h7 : M7.IsWhole) (M8 : Memref sig .tc .vmem S512x8192 .bf16) (h8 : M8.IsWhole) (M9 : Memref sig .tc .vmem S512x8192 .bf16) (h9 : M9.IsWhole) (M10 : Memref sig .tc .vmem S8x512 .f32) (h10 : M10.IsWhole) (M11 : Memref sig .tc .vmem S8x512 .f32) (h11 : M11.IsWhole) (M12 : Memref sig .tc .vmem S8x512 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)

/-- Group `k` of the activations as read. -/
def xgr (X : Vec F S2x256x8192 .bf16) (k : ℕ) : Vec F S1x256x128 .bf16 :=
  fun x => X ((Rect.unit (s := S2x256x8192) (off6 k) S1x256x128.size (inb6 k)).toLoadRect.idx x)

/-- The codes of group `k`, as one piece of the codes' buffer. -/
def gp6 (X : Vec F S2x256x8192 .bf16) (k : ℕ) : View.Piece (Elt F) S2x256x8192 .fp8e4m3 :=
  ⟨Rect.unit (s := S2x256x8192) (off6 k) S1x256x128.size (inb6 k), k0_pay10 (k0_pay6 (xgr X k)) (k0_pay7 (xgr X k))⟩

/-- The dequantised group `k`, as one piece of its buffer. -/
def gp8 (X : Vec F S2x256x8192 .bf16) (k : ℕ) : View.Piece (Elt F) S512x8192 .bf16 :=
  ⟨Rect.unit (s := S512x8192) (off8 k) S256x128.size (inb8 k), k0_pay11 (k0_pay6 (xgr X k)) (k0_pay7 (xgr X k))⟩

/-- The dequantised block `k` of the weights, as one piece of its buffer. -/
def gp9 (Wq : Vec F S512x8192 .fp8e4m3) (Ws : Vec F S127x64 .f32) (i : grid0.Coords) (k : ℕ) : View.Piece (Elt F) S512x8192 .bf16 :=
  ⟨Rect.unit (s := S512x8192) (off9 k) S128x128.size (inb9 k),
    k0_pay1416 (Ws ((Rect.unit (s := S127x64) (offw i k) S1x1.size (inbw i k)).toLoadRect.idx (Shape.Idx.first (numel1_S1x1.symm ▸ Nat.one_pos))))
      (fun x => Wq ((Rect.unit (s := S512x8192) (off9 k) S128x128.size (inb9 k)).toLoadRect.idx x))⟩

/-- The scales of one half: lane by lane the scale of that lane's group, zero before. -/
def sacc (X : Vec F S2x256x8192 .bf16) (b : ℕ) : ℕ → FVec F S256x64 .f32
  | 0 => k0_pay5
  | g + 1 => select (cmpi .eq (iota .tc S256x64 32 [1] iota_S256x64_d1_w32) (broadcast S256x64 (BitVec.ofNat 32 g)))
      (broadcastTo S256x64 (shapeCast S256x1 (k0_pay8 (F := F) (k0_pay7 (xgr X (64 * b + g)))) shapeCasts_S256x1_S256x1) broadcasts_S256x1_S256x64)
      (sacc X b g)

theorem run6 : (bodyRun c i M1 h1 M2 h2 M3 h3 M4 h4 M5 h5 M6 h6 M7 h7 M8 h8 M9 h9 M10 h10 M11 h11 M12 h12 f1 f2 f3 f4 f5 f6 f7 f8 f9 f10 f11 f12).1.2.1
    = if k0_cond1 i = 1#1 then M6.view.writes (Elt F) f6 (genL (gp6 (M1.view.read (Elt F) f1)) 128) else f6 := by sl_kernel_rfl

theorem run7 : (bodyRun c i M1 h1 M2 h2 M3 h3 M4 h4 M5 h5 M6 h6 M7 h7 M8 h8 M9 h9 M10 h10 M11 h11 M12 h12 f1 f2 f3 f4 f5 f6 f7 f8 f9 f10 f11 f12).1.2.2.1
    = if k0_cond1 i = 1#1 then M7.view.writes (Elt F) f7
        [⟨Rect.unit (s := S2x256x64) ![1, 0, 0] S1x256x64.size inb_S2x256x64_S1x256x64_1_0_0, shapeCast S1x256x64 (sacc (M1.view.read (Elt F) f1) 1 64) shapeCasts_S256x64_S1x256x64⟩,
         ⟨Rect.unit (s := S2x256x64) ![0, 0, 0] S1x256x64.size inb_S2x256x64_S1x256x64_0_0_0, shapeCast S1x256x64 (sacc (M1.view.read (Elt F) f1) 0 64) shapeCasts_S256x64_S1x256x64⟩] else f7 := by sl_kernel_rfl

theorem run8 : (bodyRun c i M1 h1 M2 h2 M3 h3 M4 h4 M5 h5 M6 h6 M7 h7 M8 h8 M9 h9 M10 h10 M11 h11 M12 h12 f1 f2 f3 f4 f5 f6 f7 f8 f9 f10 f11 f12).1.2.2.2.1
    = if k0_cond1 i = 1#1 then M8.view.writes (Elt F) f8 (genL (gp8 (M1.view.read (Elt F) f1)) 128) else f8 := by sl_kernel_rfl

theorem run9 : (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.1
    = M9.view.writes (Elt F) M9.view.junk (genL (gp9 (M2.view.read (Elt F) f2) (M3.view.read (Elt F) f3) i) 256) := by sl_kernel_rfl

/-- The tile of logits the body computes: the blocks it wrote, times the activations it keeps. -/
def lgRun : FVec F S512x512 .f32 :=
  k0_pay1417 (M9.view.readCov (genL (gp9 (M2.view.read (Elt F) f2) (M3.view.read (Elt F) f3) i) 256) (Rect.unit (s := S512x8192) ![0, 0] S512x8192.size inb_S512x8192_S512x8192_0_0).toLoadRect)
    (M8.view.readAt (Elt F) (Rect.unit (s := S512x8192) ![0, 0] S512x8192.size inb_S512x8192_S512x8192_0_0).toLoadRect
      (if k0_cond1 i = 1#1 then M8.view.writes (Elt F) f8 (genL (gp8 (M1.view.read (Elt F) f1)) 128) else f8))

theorem run10 : (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.2.1
    = M10.view.writes (Elt F) M10.view.junk [⟨(Rect.unit (s := S8x512) ![0, 0] S8x512.size inb_S8x512_S8x512_0_0), k0_pay1422 (lgRun c i M1 M2 M3 M8 M9 f1 f2 f3 f8) (k0_pay1418 (BitVec.ofNat 32 (i 0).val)) (M10.view.readAt (Elt F) (Rect.unit (s := S8x512) ![0, 0] S8x512.size inb_S8x512_S8x512_0_0).toLoadRect (if k0_cond1 i = 1#1 then M10.view.writes (Elt F) f10 [⟨(Rect.unit (s := S8x512) ![0, 0] S8x512.size inb_S8x512_S8x512_0_0), k0_pay2⟩] else f10))⟩] := by sl_kernel_rfl

theorem run11 : (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.2.2.1
    = M11.view.writes (Elt F) M11.view.junk [⟨(Rect.unit (s := S8x512) ![0, 0] S8x512.size inb_S8x512_S8x512_0_0), k0_pay1421 (lgRun c i M1 M2 M3 M8 M9 f1 f2 f3 f8) (k0_pay1418 (BitVec.ofNat 32 (i 0).val)) (M10.view.readAt (Elt F) (Rect.unit (s := S8x512) ![0, 0] S8x512.size inb_S8x512_S8x512_0_0).toLoadRect (if k0_cond1 i = 1#1 then M10.view.writes (Elt F) f10 [⟨(Rect.unit (s := S8x512) ![0, 0] S8x512.size inb_S8x512_S8x512_0_0), k0_pay2⟩] else f10)) (M11.view.readAt (Elt F) (Rect.unit (s := S8x512) ![0, 0] S8x512.size inb_S8x512_S8x512_0_0).toLoadRect (if k0_cond1 i = 1#1 then M11.view.writes (Elt F) f11 [⟨(Rect.unit (s := S8x512) ![0, 0] S8x512.size inb_S8x512_S8x512_0_0), k0_pay3⟩] else f11))⟩] := by sl_kernel_rfl

theorem run12 : (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.2.2.2
    = M12.view.writes (Elt F) M12.view.junk [⟨(Rect.unit (s := S8x512) ![0, 0] S8x512.size inb_S8x512_S8x512_0_0), k0_pay1423 (lgRun c i M1 M2 M3 M8 M9 f1 f2 f3 f8) (k0_pay1418 (BitVec.ofNat 32 (i 0).val)) (M4.view.readAt (Elt F) (Rect.unit (s := S1x512) ![0, 0] S1x512.size inb_S1x512_S1x512_0_0).toLoadRect f4) (M12.view.readAt (Elt F) (Rect.unit (s := S8x512) ![0, 0] S8x512.size inb_S8x512_S8x512_0_0).toLoadRect (if k0_cond1 i = 1#1 then M12.view.writes (Elt F) f12 [⟨(Rect.unit (s := S8x512) ![0, 0] S8x512.size inb_S8x512_S8x512_0_0), k0_pay4⟩] else f12))⟩] := by sl_kernel_rfl

theorem run5 : (bodyRun c i M1 h1 M2 h2 M3 h3 M4 h4 M5 h5 M6 h6 M7 h7 M8 h8 M9 h9 M10 h10 M11 h11 M12 h12 f1 f2 f3 f4 f5 f6 f7 f8 f9 f10 f11 f12).1.1
    = if k0_cond2 i = 1#1 then M5.view.writes (Elt F) f5 [⟨(Rect.unit (s := S1x512) ![0, 0] S1x512.size inb_S1x512_S1x512_0_0), k0_pay1 (M10.view.readCov [⟨(Rect.unit (s := S8x512) ![0, 0] S8x512.size inb_S8x512_S8x512_0_0), k0_pay1422 (lgRun c i M1 M2 M3 M8 M9 f1 f2 f3 f8) (k0_pay1418 (BitVec.ofNat 32 (i 0).val)) (M10.view.readAt (Elt F) (Rect.unit (s := S8x512) ![0, 0] S8x512.size inb_S8x512_S8x512_0_0).toLoadRect (if k0_cond1 i = 1#1 then M10.view.writes (Elt F) f10 [⟨(Rect.unit (s := S8x512) ![0, 0] S8x512.size inb_S8x512_S8x512_0_0), k0_pay2⟩] else f10))⟩] (Rect.unit (s := S8x512) ![0, 0] S8x512.size inb_S8x512_S8x512_0_0).toLoadRect) (M11.view.readCov [⟨(Rect.unit (s := S8x512) ![0, 0] S8x512.size inb_S8x512_S8x512_0_0), k0_pay1421 (lgRun c i M1 M2 M3 M8 M9 f1 f2 f3 f8) (k0_pay1418 (BitVec.ofNat 32 (i 0).val)) (M10.view.readAt (Elt F) (Rect.unit (s := S8x512) ![0, 0] S8x512.size inb_S8x512_S8x512_0_0).toLoadRect (if k0_cond1 i = 1#1 then M10.view.writes (Elt F) f10 [⟨(Rect.unit (s := S8x512) ![0, 0] S8x512.size inb_S8x512_S8x512_0_0), k0_pay2⟩] else f10)) (M11.view.readAt (Elt F) (Rect.unit (s := S8x512) ![0, 0] S8x512.size inb_S8x512_S8x512_0_0).toLoadRect (if k0_cond1 i = 1#1 then M11.view.writes (Elt F) f11 [⟨(Rect.unit (s := S8x512) ![0, 0] S8x512.size inb_S8x512_S8x512_0_0), k0_pay3⟩] else f11))⟩] (Rect.unit (s := S8x512) ![0, 0] S8x512.size inb_S8x512_S8x512_0_0).toLoadRect) (M12.view.readCov [⟨(Rect.unit (s := S8x512) ![0, 0] S8x512.size inb_S8x512_S8x512_0_0), k0_pay1423 (lgRun c i M1 M2 M3 M8 M9 f1 f2 f3 f8) (k0_pay1418 (BitVec.ofNat 32 (i 0).val)) (M4.view.readAt (Elt F) (Rect.unit (s := S1x512) ![0, 0] S1x512.size inb_S1x512_S1x512_0_0).toLoadRect f4) (M12.view.readAt (Elt F) (Rect.unit (s := S8x512) ![0, 0] S8x512.size inb_S8x512_S8x512_0_0).toLoadRect (if k0_cond1 i = 1#1 then M12.view.writes (Elt F) f12 [⟨(Rect.unit (s := S8x512) ![0, 0] S8x512.size inb_S8x512_S8x512_0_0), k0_pay4⟩] else f12))⟩] (Rect.unit (s := S8x512) ![0, 0] S8x512.size inb_S8x512_S8x512_0_0).toLoadRect)⟩] else f5 := by sl_kernel_rfl

end Cert.KernelIdeal.Hand
-- ==== Proof.Exponent.lean ====
/-
  The power-of-two scale of a group. The kernel counts the powers of two not above `y = amax / 448` and shifts the count
  into a float's exponent field; the reference takes `2 ^ (⌊log₂ y⌋ + 1)`. For `y = 0` and for every `y` in
  `[2^-127, 2^126)` the two scales, and their reciprocals, are the same extended reals.
-/
module

public import Idealize.ShloMosaic.PureOps.Ideal
public import Idealize.ShloMosaic.PureOps.Ideal.Laws
public import Idealize.ShloMosaic.Lib.IdealHost
public import Mathlib.Analysis.SpecialFunctions.Pow.Real

@[expose] public section

noncomputable section

namespace Cert.Exponent

open Idealize.ShloMosaic

/-- `amax / 448` as both programs compute it. -/
def yOf (a : EReal) : EReal := a * Ideal.ofBits .f32 0x3B124925#32

/-- The reference's exponent. -/
def eref (a : EReal) : EReal :=
  if a = 0 then 0 else
    Ideal.liftRound Int.floor (Ideal.div (Ideal.log (yOf a)) (Ideal.log (Ideal.ofBits .f32 0x40000000#32))) + 1

/-- The kernel's exponent word. -/
def eword (a : EReal) : BitVec 32 :=
  if yOf a = 0 then 0#32 else
    IntOp.subi (Finset.fold IntOp.addi (0#32) (fun x : Fin 256 => BitVec.setWidth 32 (BitVec.ofBool (decide
      (Ideal.ofBits FTy.f32 (IntOp.shli ArithUnit.vector (BitVec.ofNat 32 x.val) 23#32) ≤ yOf a)))) Finset.univ) 127#32

/-- The kernel's scale. -/
def kscale (a : EReal) : EReal := Ideal.ofBits FTy.f32 (IntOp.shli ArithUnit.vector (IntOp.addi (127#32) (eword a)) 23#32)

/-- The kernel's reciprocal of the scale. -/
def kinv (a : EReal) : EReal := Ideal.ofBits FTy.f32 (IntOp.shli ArithUnit.vector (IntOp.subi (127#32) (eword a)) 23#32)

theorem shl (w : BitVec 32) : IntOp.shli ArithUnit.vector w 23#32 = w <<< (23 : ℕ) := by
  unfold IntOp.shli
  rw [if_pos (by decide)]
  rfl

/-- The words with an exponent field alone are the powers of two. -/
theorem ofBits_pow (m : ℕ) (h1 : 1 ≤ m) (h2 : m ≤ 254) :
    Ideal.ofBits .f32 (BitVec.ofNat 32 m <<< (23 : ℕ)) = (((2 : ℝ) ^ ((m : ℤ) - 127) : ℝ) : EReal) := by
  have hn : (BitVec.ofNat 32 m <<< (23 : ℕ)).toNat = m * 8388608 := by
    rw [BitVec.toNat_shiftLeft, BitVec.toNat_ofNat, Nat.shiftLeft_eq]
    omega
  have hs : (BitVec.ofNat 32 m <<< (23 : ℕ)).extractLsb' (8 + 23) 1 = 0#1 := by
    apply BitVec.eq_of_toNat_eq
    rw [BitVec.extractLsb'_toNat, hn, Nat.shiftRight_eq_div_pow]
    show m * 8388608 / 2 ^ 31 % 2 ^ 1 = 0
    omega
  have he : ((BitVec.ofNat 32 m <<< (23 : ℕ)).extractLsb' 23 8).toNat = m := by
    rw [BitVec.extractLsb'_toNat, hn, Nat.shiftRight_eq_div_pow]
    omega
  have hf : ((BitVec.ofNat 32 m <<< (23 : ℕ)).extractLsb' 0 23).toNat = 0 := by
    rw [BitVec.extractLsb'_toNat, hn, Nat.shiftRight_eq_div_pow]
    omega
  show Ideal.ieee 8 23 _ = _
  unfold Ideal.ieee
  simp only [hs, he, hf]
  rw [if_neg (by omega), if_neg (by omega)]
  refine congrArg Real.toEReal ?_
  have h2 : ((2 ^ 23 + 0 : ℕ) : ℝ) = (2 : ℝ) ^ (23 : ℤ) := by norm_num
  rw [h2]
  simp only [show ((0#1 : BitVec 1) == 1#1) = false from rfl, Bool.false_eq_true, if_false, one_mul]
  rw [← zpow_add₀ (by norm_num)]
  refine congrArg (fun z : ℤ => (2 : ℝ) ^ z) ?_
  norm_num

theorem ofBits_zero_shl : Ideal.ofBits .f32 (BitVec.ofNat 32 0 <<< (23 : ℕ)) = 0 := by
  simp [Ideal.ofBits, Ideal.ieee]

theorem ofBits_top_shl : Ideal.ofBits .f32 (BitVec.ofNat 32 255 <<< (23 : ℕ)) = ⊤ := by
  simp [Ideal.ofBits, Ideal.ieee]

theorem fold_ones {ι : Type} (P : ι → Prop) [DecidablePred P] (S : Finset ι) :
    Finset.fold IntOp.addi (0#32) (fun x => if P x then 1#32 else 0#32) S = BitVec.ofNat 32 (S.filter P).card := by
  classical
  induction S using Finset.induction_on with
  | empty => rfl
  | insert a S ha ih =>
    rw [Finset.fold_insert ha, ih, Finset.filter_insert]
    by_cases h : P a
    · rw [if_pos h, if_pos h, Finset.card_insert_of_notMem (fun h' => ha (Finset.mem_filter.mp h').1), Nat.add_comm]
      exact (BitVec.ofNat_add 1 _).symm
    · rw [if_neg h, if_neg h]
      exact BitVec.zero_add _

/-- The count of the powers of two not above a real between two consecutive ones. -/
theorem count (y : ℝ) (n : ℤ) (hn : -127 ≤ n) (hn' : n ≤ 125) (h1 : (2 : ℝ) ^ n ≤ y) (h2 : y < (2 : ℝ) ^ (n + 1)) :
    Finset.fold IntOp.addi (0#32) (fun x : Fin 256 => BitVec.setWidth 32 (BitVec.ofBool (decide
      (Ideal.ofBits FTy.f32 (IntOp.shli ArithUnit.vector (BitVec.ofNat 32 x.val) 23#32) ≤ (y : EReal))))) Finset.univ
      = BitVec.ofNat 32 (n + 128).toNat := by
  have hy : 0 < y := lt_of_lt_of_le (zpow_pos (by norm_num) _) h1
  have key : ∀ x : Fin 256, BitVec.setWidth 32 (BitVec.ofBool (decide
      (Ideal.ofBits FTy.f32 (IntOp.shli ArithUnit.vector (BitVec.ofNat 32 x.val) 23#32) ≤ (y : EReal))))
      = if x.val < (n + 128).toNat then 1#32 else 0#32 := by
    intro x
    have hiff : (Ideal.ofBits FTy.f32 (IntOp.shli ArithUnit.vector (BitVec.ofNat 32 x.val) 23#32) ≤ (y : EReal)) ↔ x.val < (n + 128).toNat := by
      rw [shl]
      rcases Nat.eq_zero_or_pos x.val with h0 | h0
      · rw [h0, ofBits_zero_shl]
        exact ⟨fun _ => by omega, fun _ => by exact_mod_cast hy.le⟩
      · rcases Nat.lt_or_ge x.val 255 with h255 | h255
        · rw [ofBits_pow x.val h0 (by omega), EReal.coe_le_coe_iff]
          constructor
          · intro h
            have := (zpow_lt_zpow_iff_right₀ (by norm_num : (1 : ℝ) < 2)).mp (lt_of_le_of_lt h h2)
            omega
          · intro h
            refine le_trans (zpow_le_zpow_right₀ (by norm_num) ?_) h1
            omega
        · have hx : x.val = 255 := by omega
          rw [hx, ofBits_top_shl]
          constructor
          · intro h
            exact absurd (top_le_iff.mp h) (EReal.coe_ne_top y)
          · intro h; omega
    by_cases h : x.val < (n + 128).toNat
    · rw [if_pos h, decide_eq_true (hiff.mpr h)]; rfl
    · rw [if_neg h, decide_eq_false (fun h' => h (hiff.mp h'))]; rfl
  rw [funext key]
  rw [fold_ones (fun x : Fin 256 => x.val < (n + 128).toNat), Fin.card_filter_val_lt]
  congr 1
  omega

theorem ofBits_two : Ideal.ofBits .f32 0x40000000#32 = ((2 : ℝ) : EReal) := by
  have := ofBits_pow 128 (by omega) (by omega)
  rw [show (BitVec.ofNat 32 128 <<< (23 : ℕ)) = 0x40000000#32 by decide] at this
  rw [this]; norm_num

theorem ofBits_lo : Ideal.ofBits .f32 0x00400000#32 = (((2 : ℝ) ^ (-127 : ℤ) : ℝ) : EReal) := by
  simp [Ideal.ofBits, Ideal.ieee]
  rw [← EReal.coe_mul]
  norm_num

theorem ofBits_hi : Ideal.ofBits .f32 0x7E800000#32 = (((2 : ℝ) ^ (126 : ℤ) : ℝ) : EReal) := by
  have := ofBits_pow 253 (by omega) (by omega)
  rw [show (BitVec.ofNat 32 253 <<< (23 : ℕ)) = 0x7E800000#32 by decide] at this
  rw [this]; norm_num

/-- The reference's exponent of a real between two consecutive powers of two. -/
theorem eref_of {a : EReal} {y : ℝ} (ha : a ≠ 0) (hy : yOf a = (y : EReal)) (n : ℤ) (h1 : (2 : ℝ) ^ n ≤ y) (h2 : y < (2 : ℝ) ^ (n + 1)) :
    eref a = (((n + 1 : ℤ) : ℝ) : EReal) := by
  have hpos : 0 < y := lt_of_lt_of_le (zpow_pos (by norm_num) _) h1
  have hl2 : 0 < Real.log 2 := Real.log_pos (by norm_num)
  unfold eref
  rw [if_neg ha, hy, ofBits_two, Ideal.log_coe, Ideal.log_coe, if_neg (not_le.mpr hpos), if_neg (by norm_num),
    Ideal.div_coe hl2.ne', ← EReal.coe_mul, Ideal.liftRound_coe]
  have hfl : ⌊Real.log y * (1 / Real.log 2)⌋ = n := by
    rw [Int.floor_eq_iff, mul_one_div, le_div_iff₀ hl2, div_lt_iff₀ hl2]
    constructor
    · rw [← Real.log_zpow]; exact Real.log_le_log (zpow_pos (by norm_num) _) h1
    · have := Real.log_lt_log hpos h2
      rw [Real.log_zpow] at this
      push_cast at this
      exact this
  rw [hfl]
  push_cast
  rfl

theorem exp2_int (n : ℤ) : Ideal.exp2 ((n : ℝ) : EReal) = (((2 : ℝ) ^ n : ℝ) : EReal) := by
  rw [Ideal.exp2_coe]
  congr 1
  exact Real.rpow_intCast 2 n

/-- The two scales and their reciprocals. -/
theorem scales (a : EReal) (h : a = 0 ∨ (Ideal.ofBits .f32 0x00400000#32 ≤ yOf a ∧ yOf a < Ideal.ofBits .f32 0x7E800000#32)) :
    kscale a = Ideal.exp2 (eref a) ∧ kinv a = Ideal.exp2 (0 - eref a) := by
  rcases h with rfl | ⟨hlo, hhi⟩
  · have hy : yOf 0 = 0 := by unfold yOf; exact zero_mul _
    have he : eword 0 = 0#32 := by unfold eword; rw [if_pos hy]
    have hr : eref 0 = 0 := by unfold eref; rw [if_pos rfl]
    have h1 := ofBits_pow 127 (by omega) (by omega)
    have hx := exp2_int 0
    simp only [Int.cast_zero, EReal.coe_zero, zpow_zero, EReal.coe_one] at hx
    have hone : Ideal.ofBits .f32 (BitVec.ofNat 32 127 <<< (23 : ℕ)) = 1 := by rw [h1]; norm_num
    unfold kscale kinv
    rw [shl, shl, he, hr, sub_zero, hx]
    exact ⟨hone, hone⟩
  · rw [ofBits_lo] at hlo
    rw [ofBits_hi] at hhi
    obtain ⟨y, hy⟩ : ∃ y : ℝ, yOf a = (y : EReal) :=
      ⟨(yOf a).toReal, (EReal.coe_toReal (ne_top_of_lt hhi) (ne_bot_of_gt (lt_of_lt_of_le (EReal.bot_lt_coe _) hlo))).symm⟩
    rw [hy, EReal.coe_le_coe_iff] at hlo
    rw [hy, EReal.coe_lt_coe_iff] at hhi
    have hpos : 0 < y := lt_of_lt_of_le (zpow_pos (by norm_num) _) hlo
    obtain ⟨n, h1, h2⟩ := exists_mem_Ico_zpow hpos (by norm_num : (1 : ℝ) < 2)
    have hn : -127 ≤ n := by
      have := (zpow_lt_zpow_iff_right₀ (by norm_num : (1 : ℝ) < 2)).mp (lt_of_le_of_lt hlo h2)
      omega
    have hn' : n ≤ 125 := by
      have := (zpow_lt_zpow_iff_right₀ (by norm_num : (1 : ℝ) < 2)).mp (lt_of_le_of_lt h1 hhi)
      omega
    have hy0 : yOf a ≠ 0 := by rw [hy]; exact_mod_cast hpos.ne'
    have ha : a ≠ 0 := fun h => hy0 (by rw [h]; unfold yOf; exact zero_mul _)
    have hw : eword a = IntOp.subi (BitVec.ofNat 32 (n + 128).toNat) 127#32 := by
      unfold eword
      rw [if_neg hy0, hy, count y n hn hn' h1 h2]
    have hr := eref_of ha hy n h1 h2
    obtain ⟨N, hN⟩ : ∃ N : ℕ, n + 128 = (N : ℤ) := ⟨(n + 128).toNat, by omega⟩
    rw [hN, Int.toNat_natCast] at hw
    have hs : IntOp.addi (127#32) (eword a) = BitVec.ofNat 32 N := by
      rw [hw]; show 127#32 + (BitVec.ofNat 32 N - 127#32) = _
      rw [BitVec.add_comm, BitVec.sub_add_cancel]
    have hi : IntOp.subi (127#32) (eword a) = BitVec.ofNat 32 (254 - N) := by
      rw [hw]; show 127#32 - (BitVec.ofNat 32 N - 127#32) = _
      apply BitVec.eq_of_toNat_eq
      simp only [BitVec.toNat_sub, BitVec.toNat_ofNat]
      omega
    constructor
    · unfold kscale
      rw [shl, hs, hr, exp2_int, ofBits_pow N (by omega) (by omega)]
      congr 2; omega
    · unfold kinv
      rw [shl, hi, hr, ofBits_pow (254 - N) (by omega) (by omega), ← EReal.coe_zero, ← EReal.coe_sub, zero_sub, ← Int.cast_neg, exp2_int]
      congr 2; omega

end Cert.Exponent
-- ==== Proof.Payload.lean ====
/-
  The kernel's payloads read at an index, over the extended reals: what each vector expression the body computes is, element
  by element.
-/
module

public import proofs.«01_k».proof.Proof.Gen.KernelIdeal.Skeleton
public import proofs.«01_k».proof.Proof.Exponent
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
theorem pay6_at (v : Vec Ideal S1x256x128 .bf16) (s : Fin 256) (k : Fin 128) :
    k0_pay6 (F := Ideal) v (ix2 s k) = v (ix3 0 s k) := by
  pointwise [k0_pay6]

/-- The largest magnitude of each row of a group. -/
def amaxV (v : FVec Ideal S256x128 .f32) : FVec Ideal S256x1 .f32 :=
  shapeCast S256x1 (multiReduction .maximumf [1] S256 (absf v) 0xFF800000#32 reduces_S256x128_S256 (.inl rfl) rfl) shapeCasts_S256_S256x1

theorem amaxV_at (v : FVec Ideal S256x128 .f32) (s : Fin 256) :
    amaxV v (ix2 s 0) = Finset.univ.fold max (Ideal.ofBits FTy.f32 0xFF800000#32) fun k : Fin 128 => FloatOps.absf (F := Ideal) (φ := .f32) (v (ix2 s k)) := by
  pointwise [amaxV]

/-- The exponent word of each row, of its largest magnitude. -/
def expV (a : FVec Ideal S256x1 .f32) : IVec S256x1 32 :=
  have v2643 : FVec Ideal S256x1 .f32 := broadcast S256x1 (Scalar.ofBits .f32 0x3B124925#32)
  have v2644 : FVec Ideal S256x1 .f32 := mulf a v2643
  select (cmpf .oeq v2644 (broadcast S256x1 (Scalar.ofBits .f32 0x00000000#32))) (broadcast S256x1 0#32)
    (subi (shapeCast S256x1 (multiReductionI .add [1] S256 (extui 32 (cmpf .oge (broadcastTo S256x256 v2644 broadcasts_S256x1_S256x256)
      (bitcastToFloat .f32 (shli (iota .tc S256x256 32 [1] iota_S256x256_d1_w32) (broadcast S256x256 23#32)))) natLt_1_32) 0#32 reduces_S256x256_S256 rfl) shapeCasts_S256_S256x1)
      (broadcast S256x1 127#32))

theorem pay7_eq (v : Vec Ideal S1x256x128 .bf16) : k0_pay7 (F := Ideal) v = expV (amaxV (k0_pay6 (F := Ideal) v)) := rfl

theorem expV_at (a : FVec Ideal S256x1 .f32) (s : Fin 256) :
    expV a (ix2 s 0) = Exponent.eword (a (ix2 s 0)) := by
  pointwise [expV, Exponent.eword, Exponent.yOf]
theorem pay8_at (e : IVec S256x1 32) (s : Fin 256) :
    k0_pay8 (F := Ideal) e (ix2 s 0) = Ideal.ofBits .f32 (IntOp.shli ArithUnit.vector (IntOp.addi (127#32) (e (ix2 s 0))) 23#32) := by
  pointwise [k0_pay8]

/-- A value times the reciprocal scale, clamped to the format's range: the code. -/
def codeOf (v inv : EReal) : EReal := min (Ideal.ofBits .f32 0x43E00000#32) (max (Ideal.ofBits .f32 0xC3E00000#32) (v * inv))

theorem pay9_at (v : FVec Ideal S256x128 .f32) (e : IVec S256x1 32) (s : Fin 256) (k : Fin 128) :
    k0_pay9 (F := Ideal) v e (ix2 s k) = codeOf (v (ix2 s k)) (Ideal.ofBits .f32 (IntOp.shli ArithUnit.vector (IntOp.subi (127#32) (e (ix2 s 0))) 23#32)) := by
  pointwise [k0_pay9, codeOf]

theorem pay10_at (v : FVec Ideal S256x128 .f32) (e : IVec S256x1 32) (s : Fin 256) (k : Fin 128) :
    k0_pay10 (F := Ideal) v e (ix3 0 s k) = k0_pay9 (F := Ideal) v e (ix2 s k) := by
  pointwise [k0_pay10]

theorem pay11_at (v : FVec Ideal S256x128 .f32) (e : IVec S256x1 32) (s : Fin 256) (k : Fin 128) :
    k0_pay11 (F := Ideal) v e (ix2 s k) = k0_pay9 (F := Ideal) v e (ix2 s k) * k0_pay8 (F := Ideal) e (ix2 s 0) := by
  pointwise [k0_pay11]

theorem pay1416_at (w : EReal) (v : Vec Ideal S128x128 .fp8e4m3) (s k : Fin 128) :
    k0_pay1416 (F := Ideal) w v (ix2 s k) = v (ix2 s k) * w := by
  pointwise [k0_pay1416]

theorem pay1417_at (w x : Vec Ideal S512x8192 .bf16) (v j : Fin 512) :
    k0_pay1417 (F := Ideal) w x (ix2 v j) = ∑ d : Fin 8192, w (ix2 v d) * x (ix2 j d) := by
  pointwise [k0_pay1417]
theorem pay1418_at (i : BitVec 32) (v j : Fin 512) :
    k0_pay1418 i (ix2 v j) = IntOp.addi (BitVec.ofNat 32 v.val) (Scalar.muli i 512#32) := by
  pointwise [k0_pay1418]

theorem pay1419_at (g : FVec Ideal S512x512 .f32) (r : IVec S512x512 32) (a : Fin 64) (k : Fin 8) (j : Fin 512) :
    k0_pay1419 (F := Ideal) g r (ix3 a k j) = Scalar.select (IntOp.cmpi .slt (r (ix2 ⟨a.val * 8 + k.val, by omega⟩ j)) 16256#32) (g (ix2 ⟨a.val * 8 + k.val, by omega⟩ j)) (Ideal.ofBits FTy.f32 0xFF800000#32) := by
  pointwise [k0_pay1419]

/-- The largest of the 64 rows of a sublane. -/
def redmax (g : FVec Ideal S64x8x512 .f32) : FVec Ideal S8x512 .f32 := multiReduction .maximumf [0] S8x512 g 0xFF800000#32 reduces_S64x8x512_S8x512 (.inl rfl) rfl

theorem redmax_at (g : FVec Ideal S64x8x512 .f32) (k : Fin 8) (j : Fin 512) :
    redmax g (ix2 k j) = Finset.univ.fold max (Ideal.ofBits FTy.f32 0xFF800000#32) fun a : Fin 64 => g (ix3 a k j) := by
  pointwise [redmax]

theorem pay1420_eq (g : FVec Ideal S512x512 .f32) (r : IVec S512x512 32) (m : Vec Ideal S8x512 .f32) :
    k0_pay1420 (F := Ideal) g r m = maximumf m (redmax (k0_pay1419 (F := Ideal) g r)) := rfl

/-- The running sum of exponentials, moved to a new bound and with one tile's exponentials added. -/
def smV (g : FVec Ideal S64x8x512 .f32) (m m' s : FVec Ideal S8x512 .f32) : FVec Ideal S8x512 .f32 :=
  shapeCast S8x512 (addf (mulf s (exp (subf m m'))) (multiReduction .add [0] S8x512 (exp (subf g (broadcastTo S64x8x512 (shapeCast S1x8x512 m' shapeCasts_S8x512_S1x8x512) broadcasts_S1x8x512_S64x8x512))) 0x00000000#32 reduces_S64x8x512_S8x512 (.inl rfl) rfl)) shapeCasts_S8x512_S8x512

theorem smV_at (g : FVec Ideal S64x8x512 .f32) (m m' s : FVec Ideal S8x512 .f32) (k : Fin 8) (j : Fin 512) :
    smV g m m' s (ix2 k j) = s (ix2 k j) * Ideal.exp (m (ix2 k j) - m' (ix2 k j)) + ∑ a : Fin 64, Ideal.exp (g (ix3 a k j) - m' (ix2 k j)) := by
  pointwise [smV]

theorem pay1421_eq (g : FVec Ideal S512x512 .f32) (r : IVec S512x512 32) (m s : Vec Ideal S8x512 .f32) :
    k0_pay1421 (F := Ideal) g r m s = smV (k0_pay1419 (F := Ideal) g r) m (k0_pay1420 (F := Ideal) g r m) s := rfl

theorem pay1422_at (g : FVec Ideal S512x512 .f32) (r : IVec S512x512 32) (m : Vec Ideal S8x512 .f32) :
    k0_pay1422 (F := Ideal) g r m = k0_pay1420 (F := Ideal) g r m := by
  unfold k0_pay1422; exact shapeCast_self _ _

/-- The running sum of the labels' logits. -/
def lbV (g : FVec Ideal S64x8x512 .f32) (r : IVec S512x512 32) (lab : IVec S1x512 32) (l : FVec Ideal S8x512 .f32) : FVec Ideal S8x512 .f32 :=
  have v2587 : IVec S64x8x512 32 := shapeCast S64x8x512 r shapeCasts_S512x512_S64x8x512
  have v2608 : IVec S1x512 32 := shapeCast S1x512 lab shapeCasts_S1x512_S1x512
  have v2610 : IVec S1x1x512 32 := shapeCast S1x1x512 v2608 shapeCasts_S1x512_S1x1x512
  have v2611 : IVec S64x8x512 32 := broadcastTo S64x8x512 v2610 broadcasts_S1x1x512_S64x8x512
  have v2614 : FVec Ideal S64x8x512 .f32 := select (cmpi .eq v2587 v2611) g (broadcast S64x8x512 (Scalar.ofBits .f32 0x00000000#32))
  shapeCast S8x512 (addf l (multiReduction .add [0] S8x512 v2614 0x00000000#32 reduces_S64x8x512_S8x512 (.inl rfl) rfl)) shapeCasts_S8x512_S8x512

theorem lbV_at (g : FVec Ideal S64x8x512 .f32) (r : IVec S512x512 32) (lab : IVec S1x512 32) (l : FVec Ideal S8x512 .f32) (k : Fin 8) (j : Fin 512) :
    lbV g r lab l (ix2 k j) = l (ix2 k j) + ∑ a : Fin 64, Scalar.select (IntOp.cmpi .eq (r (ix2 ⟨a.val * 8 + k.val, by omega⟩ j)) (lab (ix2 0 j))) (g (ix3 a k j)) (0 : EReal) := by
  pointwise [lbV]

theorem pay1423_eq (g : FVec Ideal S512x512 .f32) (r : IVec S512x512 32) (lab : IVec S1x512 32) (l : FVec Ideal S8x512 .f32) :
    k0_pay1423 (F := Ideal) g r lab l = lbV (k0_pay1419 (F := Ideal) g r) r lab l := rfl

theorem pay1_at (m s l : Vec Ideal S8x512 .f32) (j : Fin 512) :
    k0_pay1 (F := Ideal) m s l (ix2 0 j) =
      (Finset.univ.fold max (Ideal.ofBits FTy.f32 0xFF800000#32) (fun k : Fin 8 => m (ix2 k j)))
        + Ideal.log (∑ k : Fin 8, s (ix2 k j) * Ideal.exp (m (ix2 k j) - Finset.univ.fold max (Ideal.ofBits FTy.f32 0xFF800000#32) (fun k : Fin 8 => m (ix2 k j))))
        - (∑ k : Fin 8, l (ix2 k j)) - Ideal.ofBits FTy.f32 0x411B23B5#32 := by
  pointwise [k0_pay1]

theorem pay2_at (k : Fin 8) (j : Fin 512) : k0_pay2 (F := Ideal) (ix2 k j) = Ideal.ofBits FTy.f32 0xFF800000#32 := by
  pointwise [k0_pay2]
theorem pay3_at (k : Fin 8) (j : Fin 512) : k0_pay3 (F := Ideal) (ix2 k j) = 0 := by
  pointwise [k0_pay3]
theorem pay4_at (k : Fin 8) (j : Fin 512) : k0_pay4 (F := Ideal) (ix2 k j) = 0 := by
  pointwise [k0_pay4]

/-! ## A group of the activations -/

/-- The largest magnitude of group `g` of row `(b, s)`. -/
def amx (X : S2x256x8192.Idx → EReal) (b : Fin 2) (s : Fin 256) (g : Fin 64) : EReal :=
  Finset.univ.fold max (Ideal.ofBits FTy.f32 0xFF800000#32) fun k : Fin 128 =>
    FloatOps.absf (F := Ideal) (φ := .f32) (X (ix3 b s ⟨g.val * 128 + k.val, by omega⟩))

theorem pay7_at (v : Vec Ideal S1x256x128 .bf16) (s : Fin 256) :
    k0_pay7 (F := Ideal) v (ix2 s 0) = Exponent.eword (Finset.univ.fold max (Ideal.ofBits FTy.f32 0xFF800000#32) fun k : Fin 128 =>
      FloatOps.absf (F := Ideal) (φ := .f32) (v (ix3 0 s k))) := by
  rw [pay7_eq]
  refine (expV_at _ s).trans (congrArg Exponent.eword ((amaxV_at _ s).trans ?_))
  congr 1
  funext k
  exact congrArg _ (pay6_at v s k)

end Cert.KernelIdeal.Hand
-- ==== Proof.Reads.lean ====
/-
  What the buffers the body writes read afterwards: the pieces of each cover their buffer, and each piece is the buffer's
  one function at its own place.
-/
module

public import proofs.«01_k».proof.Proof.Pieces
public import proofs.«01_k».proof.Proof.Payload
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

section Generic

theorem mem_unit {s : Shape} {off size : Fin s.rank → ℕ} (inb : ∀ a, off a + size a ≤ s.size a) {y : s.Idx}
    (h : ∀ a, off a ≤ (y a).val ∧ (y a).val < off a + size a) : y ∈ (Rect.unit (s := s) off size inb).set := Rect.mem_set_unit.mpr h

variable {F : FTy → Type} [FloatOps F]

/-- The codes, from the activations. -/
def codesV (X : Vec F S2x256x8192 .bf16) : Vec F S2x256x8192 .fp8e4m3 := fun y =>
  have k := 64 * (y 0).val + (y 2).val / 128
  k0_pay10 (k0_pay6 (xgr X k)) (k0_pay7 (xgr X k)) (ix3 0 (y 1) ⟨(y 2).val % 128, Nat.mod_lt _ (by decide)⟩)

/-- The dequantised activations, from the activations. -/
def xwV (X : Vec F S2x256x8192 .bf16) : Vec F S512x8192 .bf16 := fun y =>
  have k := 64 * ((y 0).val / 256) + (y 1).val / 128
  k0_pay11 (k0_pay6 (xgr X k)) (k0_pay7 (xgr X k)) (ix2 ⟨(y 0).val % 256, Nat.mod_lt _ (by decide)⟩ ⟨(y 1).val % 128, Nat.mod_lt _ (by decide)⟩)

/-- The tile of dequantised weights of grid point `i`, from the tile's codes and the weight scales. -/
def wV (Wq : Vec F S512x8192 .fp8e4m3) (Ws : Vec F S127x64 .f32) (i : grid0.Coords) : Vec F S512x8192 .bf16 := fun y =>
  (gp9 Wq Ws i (64 * ((y 0).val / 128) + (y 1).val / 128)).2
    (ix2 ⟨(y 0).val % 128, Nat.mod_lt _ (by decide)⟩ ⟨(y 1).val % 128, Nat.mod_lt _ (by decide)⟩)

/-- The scales, from the activations. -/
def scaleV (X : Vec F S2x256x8192 .bf16) : Vec F S2x256x64 .f32 := fun y => sacc X (y 0).val 64 (ix2 (y 1) (y 2))

theorem read6 {κ : Kind} {sp : Space} (v : View sig κ sp S2x256x8192 .fp8e4m3) (f : v.ty.Contents (Elt F)) (X : Vec F S2x256x8192 .bf16) :
    v.read (Elt F) (v.writes (Elt F) f (genL (gp6 X) 128)) = codesV X := by
  funext y
  refine View.read_writes_apply_of_pieces v f (codesV X) _ ?_ y ?_
  · intro p hp x
    obtain ⟨k, hk, rfl⟩ := mem_genL.mp hp
    have h0 : (x (0 : Fin 3)).val < 1 := (x (0 : Fin 3)).isLt
    have h2 : (x (2 : Fin 3)).val < 128 := (x (2 : Fin 3)).isLt
    have hk' : 64 * (off6 k 0 + 1 * (x (0 : Fin 3)).val) + (off6 k 2 + 1 * (x (2 : Fin 3)).val) / 128 = k := by
      show 64 * (k / 64 % 2 + 1 * (x (0 : Fin 3)).val) + (128 * (k % 64) + 1 * (x (2 : Fin 3)).val) / 128 = k
      omega
    show (gp6 X k).2 x = (gp6 X (64 * (off6 k 0 + 1 * (x (0 : Fin 3)).val) + (off6 k 2 + 1 * (x (2 : Fin 3)).val) / 128)).2 _
    rw [hk']
    refine congrArg (gp6 X k).2 (funext fun a => ?_)
    fin_cases a
    · exact Fin.ext (by show (x (0 : Fin 3)).val = 0; omega)
    · exact Fin.ext (by show (x (1 : Fin 3)).val = 0 + 1 * (x (1 : Fin 3)).val; omega)
    · exact Fin.ext (by show (x (2 : Fin 3)).val = (128 * (k % 64) + 1 * (x (2 : Fin 3)).val) % 128; omega)
  · have h0 : (y (0 : Fin 3)).val < 2 := (y (0 : Fin 3)).isLt
    have h1 : (y (1 : Fin 3)).val < 256 := (y (1 : Fin 3)).isLt
    have h2 : (y (2 : Fin 3)).val < 8192 := (y (2 : Fin 3)).isLt
    refine ⟨gp6 X (64 * (y (0 : Fin 3)).val + (y (2 : Fin 3)).val / 128), mem_genL.mpr ⟨_, by omega, rfl⟩, ?_⟩
    refine mem_unit (inb6 _) fun a => ?_
    fin_cases a
    · show (64 * (y (0 : Fin 3)).val + (y (2 : Fin 3)).val / 128) / 64 % 2 ≤ (y (0 : Fin 3)).val ∧ (y (0 : Fin 3)).val < (64 * (y (0 : Fin 3)).val + (y (2 : Fin 3)).val / 128) / 64 % 2 + 1
      omega
    · show 0 ≤ (y (1 : Fin 3)).val ∧ (y (1 : Fin 3)).val < 0 + 256
      omega
    · show 128 * ((64 * (y (0 : Fin 3)).val + (y (2 : Fin 3)).val / 128) % 64) ≤ (y (2 : Fin 3)).val ∧ (y (2 : Fin 3)).val < 128 * ((64 * (y (0 : Fin 3)).val + (y (2 : Fin 3)).val / 128) % 64) + 128
      omega

theorem read8 {κ : Kind} {sp : Space} (v : View sig κ sp S512x8192 .bf16) (f : v.ty.Contents (Elt F)) (X : Vec F S2x256x8192 .bf16) :
    v.read (Elt F) (v.writes (Elt F) f (genL (gp8 X) 128)) = xwV X := by
  funext y
  refine View.read_writes_apply_of_pieces v f (xwV X) _ ?_ y ?_
  · intro p hp x
    obtain ⟨k, hk, rfl⟩ := mem_genL.mp hp
    have h0 : (x (0 : Fin 2)).val < 256 := (x (0 : Fin 2)).isLt
    have h1 : (x (1 : Fin 2)).val < 128 := (x (1 : Fin 2)).isLt
    have hk' : 64 * ((off8 k 0 + 1 * (x (0 : Fin 2)).val) / 256) + (off8 k 1 + 1 * (x (1 : Fin 2)).val) / 128 = k := by
      show 64 * ((256 * (k / 64 % 2) + 1 * (x (0 : Fin 2)).val) / 256) + (128 * (k % 64) + 1 * (x (1 : Fin 2)).val) / 128 = k
      omega
    show (gp8 X k).2 x = (gp8 X (64 * ((off8 k 0 + 1 * (x (0 : Fin 2)).val) / 256) + (off8 k 1 + 1 * (x (1 : Fin 2)).val) / 128)).2 _
    rw [hk']
    refine congrArg (gp8 X k).2 (funext fun a => ?_)
    fin_cases a
    · exact Fin.ext (by show (x (0 : Fin 2)).val = (256 * (k / 64 % 2) + 1 * (x (0 : Fin 2)).val) % 256; omega)
    · exact Fin.ext (by show (x (1 : Fin 2)).val = (128 * (k % 64) + 1 * (x (1 : Fin 2)).val) % 128; omega)
  · have h0 : (y (0 : Fin 2)).val < 512 := (y (0 : Fin 2)).isLt
    have h1 : (y (1 : Fin 2)).val < 8192 := (y (1 : Fin 2)).isLt
    refine ⟨gp8 X (64 * ((y (0 : Fin 2)).val / 256) + (y (1 : Fin 2)).val / 128), mem_genL.mpr ⟨_, by omega, rfl⟩, ?_⟩
    refine mem_unit (inb8 _) fun a => ?_
    fin_cases a
    · show 256 * ((64 * ((y (0 : Fin 2)).val / 256) + (y (1 : Fin 2)).val / 128) / 64 % 2) ≤ (y (0 : Fin 2)).val ∧ (y (0 : Fin 2)).val < 256 * ((64 * ((y (0 : Fin 2)).val / 256) + (y (1 : Fin 2)).val / 128) / 64 % 2) + 256
      omega
    · show 128 * ((64 * ((y (0 : Fin 2)).val / 256) + (y (1 : Fin 2)).val / 128) % 64) ≤ (y (1 : Fin 2)).val ∧ (y (1 : Fin 2)).val < 128 * ((64 * ((y (0 : Fin 2)).val / 256) + (y (1 : Fin 2)).val / 128) % 64) + 128
      omega

theorem read9 {κ : Kind} {sp : Space} (v : View sig κ sp S512x8192 .bf16) (f : v.ty.Contents (Elt F)) (Wq : Vec F S512x8192 .fp8e4m3) (Ws : Vec F S127x64 .f32)
    (i : grid0.Coords) : v.read (Elt F) (v.writes (Elt F) f (genL (gp9 Wq Ws i) 256)) = wV Wq Ws i := by
  funext y
  refine View.read_writes_apply_of_pieces v f (wV Wq Ws i) _ ?_ y ?_
  · intro p hp x
    obtain ⟨k, hk, rfl⟩ := mem_genL.mp hp
    have h0 : (x (0 : Fin 2)).val < 128 := (x (0 : Fin 2)).isLt
    have h1 : (x (1 : Fin 2)).val < 128 := (x (1 : Fin 2)).isLt
    have hk' : 64 * ((off9 k 0 + 1 * (x (0 : Fin 2)).val) / 128) + (off9 k 1 + 1 * (x (1 : Fin 2)).val) / 128 = k := by
      show 64 * ((128 * (k / 64 % 4) + 1 * (x (0 : Fin 2)).val) / 128) + (128 * (k % 64) + 1 * (x (1 : Fin 2)).val) / 128 = k
      omega
    show (gp9 Wq Ws i k).2 x = (gp9 Wq Ws i (64 * ((off9 k 0 + 1 * (x (0 : Fin 2)).val) / 128) + (off9 k 1 + 1 * (x (1 : Fin 2)).val) / 128)).2 _
    rw [hk']
    refine congrArg (gp9 Wq Ws i k).2 (funext fun a => ?_)
    fin_cases a
    · exact Fin.ext (by show (x (0 : Fin 2)).val = (128 * (k / 64 % 4) + 1 * (x (0 : Fin 2)).val) % 128; omega)
    · exact Fin.ext (by show (x (1 : Fin 2)).val = (128 * (k % 64) + 1 * (x (1 : Fin 2)).val) % 128; omega)
  · have h0 : (y (0 : Fin 2)).val < 512 := (y (0 : Fin 2)).isLt
    have h1 : (y (1 : Fin 2)).val < 8192 := (y (1 : Fin 2)).isLt
    refine ⟨gp9 Wq Ws i (64 * ((y (0 : Fin 2)).val / 128) + (y (1 : Fin 2)).val / 128), mem_genL.mpr ⟨_, by omega, rfl⟩, ?_⟩
    refine mem_unit (inb9 _) fun a => ?_
    fin_cases a
    · show 128 * ((64 * ((y (0 : Fin 2)).val / 128) + (y (1 : Fin 2)).val / 128) / 64 % 4) ≤ (y (0 : Fin 2)).val ∧ (y (0 : Fin 2)).val < 128 * ((64 * ((y (0 : Fin 2)).val / 128) + (y (1 : Fin 2)).val / 128) / 64 % 4) + 128
      omega
    · show 128 * ((64 * ((y (0 : Fin 2)).val / 128) + (y (1 : Fin 2)).val / 128) % 64) ≤ (y (1 : Fin 2)).val ∧ (y (1 : Fin 2)).val < 128 * ((64 * ((y (0 : Fin 2)).val / 128) + (y (1 : Fin 2)).val / 128) % 64) + 128
      omega

/-- One half of the scales, as the body stores it. -/
def halfS (X : Vec F S2x256x8192 .bf16) (b : ℕ) : Vec F S1x256x64 .f32 := shapeCast S1x256x64 (sacc X b 64) shapeCasts_S256x64_S1x256x64

theorem halfS_at (X : Vec F S2x256x8192 .bf16) (b : ℕ) (s : Fin 256) (g : Fin 64) : halfS X b (ix3 0 s g) = sacc X b 64 (ix2 s g) := by
  unfold halfS
  generalize sacc X b 64 = z
  pointwise

theorem read7 {κ : Kind} {sp : Space} (v : View sig κ sp S2x256x64 .f32) (f : v.ty.Contents (Elt F)) (X : Vec F S2x256x8192 .bf16) :
    v.read (Elt F) (v.writes (Elt F) f
        [⟨Rect.unit (s := S2x256x64) ![1, 0, 0] S1x256x64.size inb_S2x256x64_S1x256x64_1_0_0, halfS X 1⟩,
         ⟨Rect.unit (s := S2x256x64) ![0, 0, 0] S1x256x64.size inb_S2x256x64_S1x256x64_0_0_0, halfS X 0⟩]) = scaleV X := by
  funext y
  have h0 : (y (0 : Fin 3)).val < 2 := (y (0 : Fin 3)).isLt
  rcases (by omega : (y (0 : Fin 3)).val = 1 ∨ (y (0 : Fin 3)).val = 0) with h | h
  · refine (View.read_writes_cons_unit_of_mem v f _ _ _ y (ix3 0 (y 1) (y 2)) rfl fun a => ?_).trans ?_
    · fin_cases a
      · show (y (0 : Fin 3)).val = 1 + 0; omega
      · show (y (1 : Fin 3)).val = 0 + (y (1 : Fin 3)).val; omega
      · show (y (2 : Fin 3)).val = 0 + (y (2 : Fin 3)).val; omega
    · refine (halfS_at X 1 (y 1) (y 2)).trans ?_
      show _ = sacc X (y (0 : Fin 3)).val 64 _
      rw [h]
  · refine (View.read_writes_cons_unit_of_not_mem v f _ _ _ y rfl (0 : Fin 3) (Or.inl ?_)).trans ?_
    · show (y (0 : Fin 3)).val < 1; omega
    refine (View.read_writes_cons_unit_of_mem v f _ _ _ y (ix3 0 (y 1) (y 2)) rfl fun a => ?_).trans ?_
    · fin_cases a
      · show (y (0 : Fin 3)).val = 0 + 0; omega
      · show (y (1 : Fin 3)).val = 0 + (y (1 : Fin 3)).val; omega
      · show (y (2 : Fin 3)).val = 0 + (y (2 : Fin 3)).val; omega
    · refine (halfS_at X 0 (y 1) (y 2)).trans ?_
      show _ = sacc X (y (0 : Fin 3)).val 64 _
      rw [h]

end Generic

/-! ## At the extended reals -/

/-- The largest magnitude of row `s` of a group. -/
def gmx (v : Vec Ideal S1x256x128 .bf16) (s : Fin 256) : EReal :=
  Finset.univ.fold max (Ideal.ofBits FTy.f32 0xFF800000#32) fun k : Fin 128 => FloatOps.absf (F := Ideal) (φ := .f32) (v (ix3 0 s k))

theorem pay7_gmx (v : Vec Ideal S1x256x128 .bf16) (s : Fin 256) : k0_pay7 (F := Ideal) v (ix2 s 0) = Exponent.eword (gmx v s) := pay7_at v s

theorem code_at (v : Vec Ideal S1x256x128 .bf16) (s : Fin 256) (k : Fin 128) :
    k0_pay9 (F := Ideal) (k0_pay6 (F := Ideal) v) (k0_pay7 (F := Ideal) v) (ix2 s k) = codeOf (v (ix3 0 s k)) (Exponent.kinv (gmx v s)) := by
  refine (pay9_at _ _ s k).trans ?_
  rw [pay7_gmx, pay6_at]
  rfl

theorem pay8_gmx (v : Vec Ideal S1x256x128 .bf16) (s : Fin 256) :
    k0_pay8 (F := Ideal) (k0_pay7 (F := Ideal) v) (ix2 s 0) = Exponent.kscale (gmx v s) := by
  refine (pay8_at _ s).trans ?_
  rw [pay7_gmx]
  rfl

theorem xgr_at (X : Vec Ideal S2x256x8192 .bf16) (b : Fin 2) (g : Fin 64) (s : Fin 256) (l : Fin 128) :
    xgr X (64 * b.val + g.val) (ix3 0 s l) = X (ix3 b s ⟨g.val * 128 + l.val, by omega⟩) := by
  have hb := b.isLt
  have hg := g.isLt
  refine congrArg X (funext fun a => ?_)
  fin_cases a
  · exact Fin.ext (by show (64 * b.val + g.val) / 64 % 2 + 1 * 0 = b.val; omega)
  · exact Fin.ext (by show 0 + 1 * s.val = s.val; omega)
  · exact Fin.ext (by show 128 * ((64 * b.val + g.val) % 64) + 1 * l.val = g.val * 128 + l.val; omega)

theorem gmx_at (X : Vec Ideal S2x256x8192 .bf16) (b : Fin 2) (g : Fin 64) (s : Fin 256) :
    gmx (xgr X (64 * b.val + g.val)) s = amx X b s g := by
  unfold gmx amx
  congr 1
  funext k
  rw [xgr_at]

/-- One code. -/
theorem codesV_at (X : Vec Ideal S2x256x8192 .bf16) (b : Fin 2) (s : Fin 256) (d : Fin 8192) :
    codesV X (ix3 b s d) = codeOf (X (ix3 b s d)) (Exponent.kinv (amx X b s ⟨d.val / 128, by omega⟩)) := by
  have h := xgr_at X b ⟨d.val / 128, by omega⟩ s ⟨d.val % 128, by omega⟩
  have h' := gmx_at X b ⟨d.val / 128, by omega⟩ s
  refine (pay10_at _ _ s ⟨d.val % 128, Nat.mod_lt _ (by decide)⟩).trans ((code_at _ s _).trans ?_)
  refine congrArg₂ codeOf (h.trans ?_) (congrArg Exponent.kinv h')
  exact congrArg (fun e => X (ix3 b s e)) (Fin.ext (by show d.val / 128 * 128 + d.val % 128 = d.val; omega))

/-- One dequantised activation. -/
theorem xwV_at (X : Vec Ideal S2x256x8192 .bf16) (j : Fin 512) (d : Fin 8192) :
    xwV X (ix2 j d) = codesV X (ix3 ⟨j.val / 256, by omega⟩ ⟨j.val % 256, by omega⟩ d)
      * Exponent.kscale (amx X ⟨j.val / 256, by omega⟩ ⟨j.val % 256, by omega⟩ ⟨d.val / 128, by omega⟩) := by
  have h' := gmx_at X ⟨j.val / 256, by omega⟩ ⟨d.val / 128, by omega⟩ ⟨j.val % 256, by omega⟩
  refine (pay11_at _ _ ⟨j.val % 256, by omega⟩ ⟨d.val % 128, by omega⟩).trans ?_
  refine congrArg₂ (· * ·) ?_ ((pay8_gmx _ _).trans (congrArg Exponent.kscale h'))
  exact (pay10_at _ _ ⟨j.val % 256, by omega⟩ ⟨d.val % 128, by omega⟩).symm

theorem sel_at (z : FVec Ideal S256x1 .f32) (acc : FVec Ideal S256x64 .f32) (n : BitVec 32) (s : Fin 256) (g : Fin 64) :
    select (cmpi .eq (iota .tc S256x64 32 [1] iota_S256x64_d1_w32) (broadcast S256x64 n))
      (broadcastTo S256x64 (shapeCast S256x1 z shapeCasts_S256x1_S256x1) broadcasts_S256x1_S256x64) acc (ix2 s g)
      = Scalar.select (IntOp.cmpi .eq (BitVec.ofNat 32 g.val) n) (z (ix2 s 0)) (acc (ix2 s g)) := by
  pointwise

theorem sacc_at (X : Vec Ideal S2x256x8192 .bf16) (b : Fin 2) (s : Fin 256) (g : Fin 64) (n : ℕ) (hn : n ≤ 64) (h : g.val < n) :
    sacc X b.val n (ix2 s g) = Exponent.kscale (amx X b s g) := by
  induction n with
  | zero => omega
  | succ n ih =>
    refine (sel_at _ _ _ s g).trans ?_
    have hg := g.isLt
    by_cases e : g.val = n
    · subst e
      have hc : IntOp.cmpi .eq (BitVec.ofNat 32 g.val) (BitVec.ofNat 32 g.val) = 1#1 := by
        unfold IntOp.cmpi; simp
      rw [hc]
      exact (pay8_gmx _ s).trans (congrArg Exponent.kscale (gmx_at X b g s))
    · have hc : IntOp.cmpi .eq (BitVec.ofNat 32 g.val) (BitVec.ofNat 32 n) = 0#1 := by
        have : (BitVec.ofNat 32 g.val == BitVec.ofNat 32 n) = false := by
          rw [beq_eq_false_iff_ne]
          intro h'
          have := congrArg BitVec.toNat h'
          rw [BitVec.toNat_ofNat, BitVec.toNat_ofNat] at this
          omega
        show BitVec.ofBool (BitVec.ofNat 32 g.val == BitVec.ofNat 32 n) = 0#1
        rw [this]; rfl
      rw [hc]
      exact ih (by omega) (by omega)

/-- One scale. -/
theorem scaleV_at (X : Vec Ideal S2x256x8192 .bf16) (b : Fin 2) (s : Fin 256) (g : Fin 64) :
    scaleV X (ix3 b s g) = Exponent.kscale (amx X b s g) := sacc_at X b s g 64 le_rfl g.isLt

/-- The row of weight scales tile row `v` of grid point `i` reads: the last one past the end. -/
theorem offw_row (i : grid0.Coords) (r : ℕ) (hr : r < 4) :
    (Scalar.indexCast (Scalar.minsi (Scalar.addi (Scalar.muli (BitVec.ofNat 32 (i 0).val) 4#32) (BitVec.ofNat 32 r)) 126#32)).toNat = min (4 * (i 0).val + r) 126 := by
  have hi : (i 0).val < 32 := (i 0).isLt
  generalize (i 0).val = n at hi
  interval_cases n <;> interval_cases r <;> rfl

/-- One dequantised weight. -/
theorem wV_at (Wq : Vec Ideal S512x8192 .fp8e4m3) (Ws : Vec Ideal S127x64 .f32) (i : grid0.Coords) (v : Fin 512) (d : Fin 8192) :
    wV Wq Ws i (ix2 v d) = Wq (ix2 v d) * Ws (ix2 ⟨min (4 * (i 0).val + v.val / 128) 126, by omega⟩ ⟨d.val / 128, by omega⟩) := by
  have hv := v.isLt
  have hd := d.isLt
  refine (pay1416_at _ _ ⟨v.val % 128, by omega⟩ ⟨d.val % 128, by omega⟩).trans ?_
  have hk : (64 * (v.val / 128) + d.val / 128) / 64 % 4 = v.val / 128 := by omega
  have hk' : (64 * (v.val / 128) + d.val / 128) % 64 = d.val / 128 := by omega
  refine congrArg₂ (· * ·) (congrArg Wq (funext fun a => ?_)) (congrArg Ws (funext fun a => ?_))
  · fin_cases a
    · exact Fin.ext (by show 128 * ((64 * (v.val / 128) + d.val / 128) / 64 % 4) + 1 * (v.val % 128) = v.val; omega)
    · exact Fin.ext (by show 128 * ((64 * (v.val / 128) + d.val / 128) % 64) + 1 * (d.val % 128) = d.val; omega)
  · fin_cases a
    · refine Fin.ext ?_
      show offw i (64 * (v.val / 128) + d.val / 128) 0 + 1 * 0 = min (4 * (i 0).val + v.val / 128) 126
      have := offw_row i (v.val / 128) (by omega)
      show (Scalar.indexCast (Scalar.minsi (Scalar.addi (Scalar.muli (BitVec.ofNat 32 (i 0).val) 4#32) (BitVec.ofNat 32 ((64 * (v.val / 128) + d.val / 128) / 64 % 4))) 126#32)).toNat + 1 * 0 = _
      rw [hk, this, Nat.mul_zero, Nat.add_zero]
    · exact Fin.ext (by show (64 * (v.val / 128) + d.val / 128) % 64 + 1 * 0 = d.val / 128; omega)

end Cert.KernelIdeal.Hand
-- ==== Proof.Lse.lean ====
/-
  The mathematics of a running log-sum-exp over the extended reals. A partial sum of exponentials is kept relative to a
  bound of its terms; moving it to a larger bound multiplies it by one exponential (`rescale`), whatever the terms are,
  infinities included. No program is mentioned here.
-/
module

public import Idealize.ShloMosaic.PureOps.Ideal
public import Mathlib.Algebra.BigOperators.Intervals

@[expose] public section

noncomputable section

namespace Cert.Lse

open Idealize.ShloMosaic

theorem exp_nonneg (a : EReal) : 0 ≤ Ideal.exp a := by
  induction a with
  | bot => simp
  | coe r => simp only [Ideal.exp_coe]; exact_mod_cast (Real.exp_pos r).le
  | top => simp

/-- One term: to lower a bound's exponential by the step from one bound to a larger one is to take it at the larger. -/
theorem exp_step {a p q : EReal} (h : a ≤ p) (h' : p ≤ q) : Ideal.exp (a - p) * Ideal.exp (p - q) = Ideal.exp (a - q) := by
  induction q with
  | bot =>
    obtain rfl := le_bot_iff.mp h'
    obtain rfl := le_bot_iff.mp h
    simp
  | top => simp [EReal.sub_top]
  | coe q =>
    induction p with
    | bot =>
      obtain rfl := le_bot_iff.mp h
      simp
    | top => exact absurd (top_le_iff.mp h') (EReal.coe_ne_top q)
    | coe p =>
      induction a with
      | bot => simp
      | top => exact absurd (top_le_iff.mp h) (EReal.coe_ne_top p)
      | coe a =>
        rw [← EReal.coe_sub, ← EReal.coe_sub, ← EReal.coe_sub, Ideal.exp_coe, Ideal.exp_coe, Ideal.exp_coe, ← EReal.coe_mul, ← Real.exp_add]
        congr 2
        ring

/-- A sum of nonnegative terms times one factor. -/
theorem sum_mul {ι : Type} (S : Finset ι) (f : ι → EReal) (hf : ∀ i, 0 ≤ f i) (x : EReal) : (∑ i ∈ S, f i) * x = ∑ i ∈ S, f i * x := by
  classical
  induction S using Finset.induction_on with
  | empty => simp
  | insert a s ha ih =>
    rw [Finset.sum_insert ha, Finset.sum_insert ha, EReal.right_distrib_of_nonneg (hf a) (Finset.sum_nonneg fun i _ => hf i), ih]

/-- A sum of exponentials relative to a bound of its terms, moved to a larger bound. -/
theorem rescale {ι : Type} (S : Finset ι) (f : ι → EReal) {p q : EReal} (h : ∀ i ∈ S, f i ≤ p) (h' : p ≤ q) :
    (∑ i ∈ S, Ideal.exp (f i - p)) * Ideal.exp (p - q) = ∑ i ∈ S, Ideal.exp (f i - q) := by
  rw [sum_mul S _ (fun _ => exp_nonneg _)]
  exact Finset.sum_congr rfl fun i hi => exp_step (h i hi) h'

/-- A sum over `m * n` consecutive indices, in `m` runs of `n`. -/
theorem sum_runs {M : Type} [AddCommMonoid M] (n : ℕ) (g : ℕ → M) (m : ℕ) :
    ∑ v ∈ Finset.range (m * n), g v = ∑ i ∈ Finset.range m, ∑ j : Fin n, g (i * n + j) := by
  induction m with
  | zero => simp
  | succ m ih =>
    rw [Nat.succ_mul, Finset.sum_range_add, ih, Finset.sum_range_succ, Fin.sum_univ_eq_sum_range (fun j => g (m * n + j))]

/-- A maximum folded from the least element is the least upper bound. -/
theorem fold_max_le {ι : Type} (S : Finset ι) (f : ι → EReal) (u : EReal) : S.fold max ⊥ f ≤ u ↔ ∀ i ∈ S, f i ≤ u := by
  rw [Finset.fold_max_le]; simp

theorem le_fold_max {ι : Type} (S : Finset ι) (f : ι → EReal) {i : ι} (hi : i ∈ S) : f i ≤ S.fold max ⊥ f :=
  (fold_max_le S f _).mp le_rfl i hi

/-! ## The running state of one sublane

Rows come in tiles of 512, row `512 t + 8 a + k` being lane row `a` of sublane `k` of tile `t`. -/

/-- Row `a` of sublane `k` of tile `t`. -/
abbrev row (t a k : ℕ) : ℕ := t * 512 + (a * 8 + k)

/-- After `n` tiles sublane `k` holds the largest logit, the sum of exponentials relative to it, and the sum of a second
    function of the rows. -/
structure State (f h : ℕ → EReal) (k n : ℕ) (m s l : EReal) : Prop where
  le : ∀ t < n, ∀ a : Fin 64, f (row t a k) ≤ m
  least : ∀ u, (∀ t < n, ∀ a : Fin 64, f (row t a k) ≤ u) → m ≤ u
  sum : s = ∑ t ∈ Finset.range n, ∑ a : Fin 64, Ideal.exp (f (row t a k) - m)
  lab : l = ∑ t ∈ Finset.range n, ∑ a : Fin 64, h (row t a k)

theorem State.zero (f h : ℕ → EReal) (k : ℕ) : State f h k 0 ⊥ 0 0 :=
  ⟨fun _ h => absurd h (Nat.not_lt_zero _), fun _ _ => bot_le, by simp, by simp⟩

theorem rescale2 {f : ℕ → EReal} {k n : ℕ} {p q : EReal} (h : ∀ t < n, ∀ a : Fin 64, f (row t a k) ≤ p) (h' : p ≤ q) :
    (∑ t ∈ Finset.range n, ∑ a : Fin 64, Ideal.exp (f (row t a k) - p)) * Ideal.exp (p - q)
      = ∑ t ∈ Finset.range n, ∑ a : Fin 64, Ideal.exp (f (row t a k) - q) := by
  rw [sum_mul _ _ (fun t => Finset.sum_nonneg fun a _ => exp_nonneg _)]
  exact Finset.sum_congr rfl fun t ht => rescale _ _ (fun a _ => h t (Finset.mem_range.mp ht) a) h'

/-- One tile more. -/
theorem State.step {f h : ℕ → EReal} {k n : ℕ} {m s l : EReal} (H : State f h k n m s l) (F G : Fin 64 → EReal)
    (hF : ∀ a : Fin 64, F a = f (row n a k)) (hG : ∀ a : Fin 64, G a = h (row n a k)) :
    State f h k (n + 1) (max m (Finset.univ.fold max ⊥ F))
      (s * Ideal.exp (m - max m (Finset.univ.fold max ⊥ F)) + ∑ a : Fin 64, Ideal.exp (F a - max m (Finset.univ.fold max ⊥ F)))
      (l + ∑ a : Fin 64, G a) := by
  obtain rfl : F = fun a : Fin 64 => f (row n a k) := funext hF
  obtain rfl : G = fun a : Fin 64 => h (row n a k) := funext hG
  refine ⟨fun t ht a => ?_, fun u hu => ?_, ?_, ?_⟩
  · rcases Nat.lt_succ_iff_lt_or_eq.mp ht with h1 | rfl
    · exact (H.le t h1 a).trans (le_max_left _ _)
    · exact (le_fold_max Finset.univ (fun a : Fin 64 => f (row t a k)) (Finset.mem_univ a)).trans (le_max_right _ _)
  · refine max_le (H.least u fun t ht a => hu t (Nat.lt_succ_of_lt ht) a) ((fold_max_le _ _ _).mpr fun a _ => hu n (Nat.lt_succ_self n) a)
  · rw [Finset.sum_range_succ, H.sum, rescale2 H.le (le_max_left _ _)]
  · rw [Finset.sum_range_succ, H.lab]

/-- The eight sublanes after 32 tiles, joined: the sum over all 16384 rows. -/
theorem State.join {f h : ℕ → EReal} {m s l : Fin 8 → EReal} (H : ∀ k : Fin 8, State f h k 32 (m k) (s k) (l k)) :
    (∑ k : Fin 8, s k * Ideal.exp (m k - Finset.univ.fold max ⊥ m)
        = ∑ v ∈ Finset.range 16384, Ideal.exp (f v - Finset.univ.fold max ⊥ m))
      ∧ ∑ k : Fin 8, l k = ∑ v ∈ Finset.range 16384, h v
      ∧ (∀ v < 16384, f v ≤ Finset.univ.fold max ⊥ m)
      ∧ ∀ u, (∀ v < 16384, f v ≤ u) → Finset.univ.fold max ⊥ m ≤ u := by
  have key : ∀ g : ℕ → EReal, ∑ k : Fin 8, ∑ t ∈ Finset.range 32, ∑ a : Fin 64, g (row t a k) = ∑ v ∈ Finset.range 16384, g v := by
    intro g
    rw [Finset.sum_comm, show (16384 : ℕ) = 32 * 512 from rfl, sum_runs 512 g 32]
    refine Finset.sum_congr rfl fun t _ => ?_
    rw [Finset.sum_comm, Fin.sum_univ_eq_sum_range (fun j => g (t * 512 + j)), show (512 : ℕ) = 64 * 8 from rfl,
      sum_runs 8 (fun j => g (t * (64 * 8) + j)) 64, Fin.sum_univ_eq_sum_range (fun a => ∑ k : Fin 8, g (t * (64 * 8) + (a * 8 + k)))]
  refine ⟨?_, ?_, fun v hv => ?_, fun u hu => ?_⟩
  · rw [← key]
    refine Finset.sum_congr rfl fun k _ => ?_
    rw [(H k).sum, rescale2 (H k).le (le_fold_max _ _ (Finset.mem_univ k))]
  · rw [← key]
    exact Finset.sum_congr rfl fun k _ => (H k).lab
  · have h1 := (H ⟨v % 8, by omega⟩).le (v / 512) (by omega) ⟨v % 512 / 8, by omega⟩
    have e : row (v / 512) (v % 512 / 8) (v % 8) = v := by simp only [row]; omega
    rw [e] at h1
    exact h1.trans (le_fold_max _ m (Finset.mem_univ _))
  · refine (fold_max_le _ _ _).mpr fun k _ => (H k).least u fun t ht a => hu _ ?_
    have := k.2; have := a.2
    simp only [row]; omega

end Cert.Lse

end
-- ==== Proof.Step.lean ====
/-
  One grid point: what the buffers read after the body, from what they read before it; and, at the extended reals, the
  running maximum, sum of exponentials and sum of label logits taken one tile of rows further.
-/
module

public import proofs.«01_k».proof.Proof.Reads
public import proofs.«01_k».proof.Proof.Lse

@[expose] public section

set_option maxRecDepth 16384

noncomputable section

namespace Cert.KernelIdeal.Hand

open Cert.KernelIdeal Cert.KernelIdeal.Gen
open Idealize.ShloMosaic Idealize.ShloMosaic.TcCoe

section Generic

variable {F : FTy → Type} [FloatOps F]

/-- The tile of logits from a tile of weight codes, the weight scales and the dequantised activations. -/
def lgV (Wq : Vec F S512x8192 .fp8e4m3) (Ws : Vec F S127x64 .f32) (i : grid0.Coords) (xw : Vec F S512x8192 .bf16) : FVec F S512x512 .f32 :=
  k0_pay1417 (wV Wq Ws i) xw

/-- The running maximum after a tile. -/
def mNew (g : FVec F S512x512 .f32) (i : grid0.Coords) (m : Vec F S8x512 .f32) : Vec F S8x512 .f32 :=
  k0_pay1422 g (k0_pay1418 (BitVec.ofNat 32 (i 0).val)) m

/-- The running sum of exponentials after a tile. -/
def sNew (g : FVec F S512x512 .f32) (i : grid0.Coords) (m s : Vec F S8x512 .f32) : Vec F S8x512 .f32 :=
  k0_pay1421 g (k0_pay1418 (BitVec.ofNat 32 (i 0).val)) m s

/-- The running sum of label logits after a tile. -/
def lNew (g : FVec F S512x512 .f32) (i : grid0.Coords) (lab : IVec S1x512 32) (l : Vec F S8x512 .f32) : Vec F S8x512 .f32 :=
  k0_pay1423 g (k0_pay1418 (BitVec.ofNat 32 (i 0).val)) lab l

variable (c : Dev nD) (i : grid0.Coords)
    (M1 : Memref sig .tc .vmem S2x256x8192 .bf16) (h1 : M1.IsWhole) (M2 : Memref sig .tc .vmem S512x8192 .fp8e4m3) (h2 : M2.IsWhole) (M3 : Memref sig .tc .smem S127x64 .f32) (h3 : M3.IsWhole) (M4 : Memref sig .tc .vmem S1x512 .i32) (h4 : M4.IsWhole) (M5 : Memref sig .tc .vmem S1x512 .f32) (h5 : M5.IsWhole) (M6 : Memref sig .tc .vmem S2x256x8192 .fp8e4m3) (h6 : M6.IsWhole) (M7 : Memref sig .tc .vmem S2x256x64 .f32) (h7 : M7.IsWhole) (M8 : Memref sig .tc .vmem S512x8192 .bf16) (h8 : M8.IsWhole) (M9 : Memref sig .tc .vmem S512x8192 .bf16) (h9 : M9.IsWhole) (M10 : Memref sig .tc .vmem S8x512 .f32) (h10 : M10.IsWhole) (M11 : Memref sig .tc .vmem S8x512 .f32) (h11 : M11.IsWhole) (M12 : Memref sig .tc .vmem S8x512 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12)

/-- The activations' buffer during a point: written at the first point, kept from it on. -/
def xwN (X : Vec F S2x256x8192 .bf16) (xw : Vec F S512x8192 .bf16) : Vec F S512x8192 .bf16 := if k0_cond1 i = 1#1 then xwV X else xw

/-- A running buffer as a point finds it: reset at the first point. -/
def rst (z v : Vec F S8x512 .f32) : Vec F S8x512 .f32 := if k0_cond1 i = 1#1 then z else v

theorem rd6 : M6.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.2.1 = if k0_cond1 i = 1#1 then codesV (M1.view.read (Elt F) f1) else M6.view.read (Elt F) f6 := by
  rw [run6]
  split
  · exact read6 _ _ _
  · rfl

theorem rd7 : M7.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.2.2.1 = if k0_cond1 i = 1#1 then scaleV (M1.view.read (Elt F) f1) else M7.view.read (Elt F) f7 := by
  rw [run7]
  split
  · exact read7 _ _ _
  · rfl

theorem rd8 : M8.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.2.2.2.1 = xwN i (M1.view.read (Elt F) f1) (M8.view.read (Elt F) f8) := by
  rw [run8]
  unfold xwN
  split
  · exact read8 _ _ _
  · rfl

theorem lgRun_w (Wq : Vec F S512x8192 .fp8e4m3) (Ws : Vec F S127x64 .f32) :
    M9.view.readCov (genL (gp9 Wq Ws i) 256) (Rect.unit (s := S512x8192) ![0, 0] S512x8192.size inb_S512x8192_S512x8192_0_0).toLoadRect = wV Wq Ws i :=
  (View.readAt_full M9.view (M9.view.writes (Elt F) M9.view.junk (genL (gp9 Wq Ws i) 256)) inb_S512x8192_S512x8192_0_0).trans (read9 M9.view _ Wq Ws i)

theorem lgRun_eq : lgRun c i M1 M2 M3 M8 M9 f1 f2 f3 f8
    = lgV (M2.view.read (Elt F) f2) (M3.view.read (Elt F) f3) i (xwN i (M1.view.read (Elt F) f1) (M8.view.read (Elt F) f8)) := by
  unfold lgRun lgV
  refine congrArg₂ k0_pay1417 (lgRun_w i M9 (M2.view.read (Elt F) f2) (M3.view.read (Elt F) f3)) ((View.readAt_full M8.view _ inb_S512x8192_S512x8192_0_0).trans ?_)
  unfold xwN
  split
  · exact read8 _ _ _
  · rfl

/-- A running buffer read after the reset of the first point. -/
theorem rst_read (M : Memref sig .tc .vmem S8x512 .f32) (f : Bf (F := F) c M) (z : Vec F S8x512 .f32) :
    M.view.readAt (Elt F) (Rect.unit (s := S8x512) ![0, 0] S8x512.size inb_S8x512_S8x512_0_0).toLoadRect
      (if k0_cond1 i = 1#1 then M.view.writes (Elt F) f [⟨Rect.unit (s := S8x512) ![0, 0] S8x512.size inb_S8x512_S8x512_0_0, z⟩] else f)
      = rst i z (M.view.read (Elt F) f) := by
  refine (View.readAt_full M.view _ inb_S8x512_S8x512_0_0).trans ?_
  unfold rst
  split
  · exact View.read_writes_full _ _ inb_S8x512_S8x512_0_0 _ _
  · rfl

/-- The tile of logits a point computes, from what its buffers read. -/
def lgP : FVec F S512x512 .f32 :=
  lgV (M2.view.read (Elt F) f2) (M3.view.read (Elt F) f3) i (xwN i (M1.view.read (Elt F) f1) (M8.view.read (Elt F) f8))

/-- The running buffers a point leaves, from what its buffers read. -/
def m10 : Vec F S8x512 .f32 := mNew (lgP c i M1 M2 M3 M8 f1 f2 f3 f8) i (rst i k0_pay2 (M10.view.read (Elt F) f10))
@[inherit_doc m10] def s11 : Vec F S8x512 .f32 :=
  sNew (lgP c i M1 M2 M3 M8 f1 f2 f3 f8) i (rst i k0_pay2 (M10.view.read (Elt F) f10)) (rst i k0_pay3 (M11.view.read (Elt F) f11))
@[inherit_doc m10] def l12 : Vec F S8x512 .f32 :=
  lNew (lgP c i M1 M2 M3 M8 f1 f2 f3 f8) i (M4.view.read (Elt F) f4) (rst i k0_pay4 (M12.view.read (Elt F) f12))

theorem rd10 : M10.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.2.1 = m10 c i M1 M2 M3 M8 M10 f1 f2 f3 f8 f10 := by
  rw [run10, lgRun_eq, rst_read]
  exact View.read_writes_full _ _ inb_S8x512_S8x512_0_0 _ _

theorem rd11 : M11.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.2.2.1 = s11 c i M1 M2 M3 M8 M10 M11 f1 f2 f3 f8 f10 f11 := by
  rw [run11, lgRun_eq, rst_read, rst_read]
  exact View.read_writes_full _ _ inb_S8x512_S8x512_0_0 _ _

theorem rd12 : M12.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.2.2.2.2.2.2.2 = l12 c i M1 M2 M3 M4 M8 M12 f1 f2 f3 f4 f8 f12 := by
  rw [run12, lgRun_eq, rst_read, View.readAt_full M4.view f4 inb_S1x512_S1x512_0_0]
  exact View.read_writes_full _ _ inb_S8x512_S8x512_0_0 _ _

theorem rd5 : M5.view.read (Elt F) (bodyRun c i M1 h1 M2 h2 M3 h3 M4 h4 M5 h5 M6 h6 M7 h7 M8 h8 M9 h9 M10 h10 M11 h11 M12 h12 f1 f2 f3 f4 f5 f6 f7 f8 f9 f10 f11 f12).1.1
    = if k0_cond2 i = 1#1 then k0_pay1 (m10 c i M1 M2 M3 M8 M10 f1 f2 f3 f8 f10) (s11 c i M1 M2 M3 M8 M10 M11 f1 f2 f3 f8 f10 f11) (l12 c i M1 M2 M3 M4 M8 M12 f1 f2 f3 f4 f8 f12)
      else M5.view.read (Elt F) f5 := by
  rw [run5, lgRun_eq, rst_read, rst_read, rst_read, View.readAt_full M4.view f4 inb_S1x512_S1x512_0_0,
    View.readCov_full M10.view inb_S8x512_S8x512_0_0 inb_S8x512_S8x512_0_0, View.readCov_full M11.view inb_S8x512_S8x512_0_0 inb_S8x512_S8x512_0_0,
    View.readCov_full M12.view inb_S8x512_S8x512_0_0 inb_S8x512_S8x512_0_0]
  split
  · exact View.read_writes_full _ _ inb_S1x512_S1x512_0_0 _ _
  · rfl

end Generic

/-! ## At the extended reals -/

theorem ofBits_ninf : Ideal.ofBits FTy.f32 0xFF800000#32 = ⊥ := by simp [Ideal.ofBits, Ideal.ieee]

/-- The number of the row at place `v` of tile `n`. -/
theorem row_word (n v : ℕ) (hn : n < 32) (hv : v < 512) :
    IntOp.addi (BitVec.ofNat 32 v) (Scalar.muli (BitVec.ofNat 32 n) 512#32) = BitVec.ofNat 32 (n * 512 + v) := by
  apply BitVec.eq_of_toNat_eq
  show (BitVec.ofNat 32 v + BitVec.ofNat 32 n * 512#32).toNat = _
  simp only [BitVec.toNat_add, BitVec.toNat_mul, BitVec.toNat_ofNat]
  omega

theorem slt_vocab (r : ℕ) (hr : r < 16384) : IntOp.cmpi .slt (BitVec.ofNat 32 r) 16256#32 = if r < 16256 then 1#1 else 0#1 := by
  show BitVec.ofBool ((BitVec.ofNat 32 r).slt 16256#32) = _
  have h : (BitVec.ofNat 32 r).slt 16256#32 = decide (r < 16256) := by
    rw [BitVec.slt_eq_decide]
    refine decide_eq_decide.mpr ?_
    rw [show (16256#32).toInt = 16256 from rfl, BitVec.toInt_eq_toNat_of_lt (by rw [BitVec.toNat_ofNat]; omega), BitVec.toNat_ofNat]
    omega
  rw [h]
  by_cases h' : r < 16256 <;> simp [h']

theorem select_ite {α : Type} (p : Prop) [Decidable p] (x y : α) : Scalar.select (if p then 1#1 else 0#1) x y = if p then x else y := by
  by_cases h : p <;> simp [h, Scalar.select]

theorem cmpi_eq_ite (a b : BitVec 32) : IntOp.cmpi .eq a b = if a = b then 1#1 else 0#1 := by
  show BitVec.ofBool (a == b) = _
  by_cases h : a = b
  · simp [h]
  · rw [if_neg h, beq_eq_false_iff_ne.mpr h]; rfl

/-- Taking a tile: if the rows inside the vocabulary of the tile of logits are those of `f`, and `f` is `⊥` on the others,
    a state after `n` tiles becomes one after `n + 1`. -/
theorem step_state (g : FVec Ideal S512x512 .f32) (i : grid0.Coords) (m s l : Vec Ideal S8x512 .f32) (lab : IVec S1x512 32)
    (f h : ℕ → EReal) (n : ℕ) (hn : n < 32) (hi : (i 0).val = n) (j : Fin 512) (k : Fin 8)
    (hf : ∀ v : Fin 512, f (n * 512 + v.val) = if n * 512 + v.val < 16256 then g (ix2 v j) else ⊥)
    (hh : ∀ r, h r = if BitVec.ofNat 32 r = lab (ix2 0 j) then f r else 0)
    (H : Lse.State f h k n (m (ix2 k j)) (s (ix2 k j)) (l (ix2 k j))) :
    Lse.State f h k (n + 1) (mNew g i m (ix2 k j)) (sNew g i m s (ix2 k j)) (lNew g i lab l (ix2 k j)) := by
  have hk := k.isLt
  have hr : ∀ (a : Fin 64), k0_pay1418 (BitVec.ofNat 32 (i 0).val) (ix2 ⟨a.val * 8 + k.val, by omega⟩ j) = BitVec.ofNat 32 (Lse.row n a k) := by
    intro a
    have ha := a.isLt
    rw [pay1418_at, hi]
    exact row_word n (a.val * 8 + k.val) hn (by omega)
  have hg : ∀ a : Fin 64, k0_pay1419 (F := Ideal) g (k0_pay1418 (BitVec.ofNat 32 (i 0).val)) (ix3 a k j) = f (Lse.row n a k) := by
    intro a
    have ha := a.isLt
    rw [pay1419_at, hr, slt_vocab _ (by show n * 512 + (a.val * 8 + k.val) < 16384; omega), select_ite, ofBits_ninf]
    exact (hf ⟨a.val * 8 + k.val, by omega⟩).symm
  have hm : mNew g i m (ix2 k j) = max (m (ix2 k j)) (Finset.univ.fold max ⊥ fun a : Fin 64 => k0_pay1419 (F := Ideal) g (k0_pay1418 (BitVec.ofNat 32 (i 0).val)) (ix3 a k j)) := by
    unfold mNew
    rw [pay1422_at, pay1420_eq]
    show max (m (ix2 k j)) (redmax _ (ix2 k j)) = _
    rw [redmax_at, ofBits_ninf]
  have hs : sNew g i m s (ix2 k j) = s (ix2 k j) * Ideal.exp (m (ix2 k j) - mNew g i m (ix2 k j))
      + ∑ a : Fin 64, Ideal.exp (k0_pay1419 (F := Ideal) g (k0_pay1418 (BitVec.ofNat 32 (i 0).val)) (ix3 a k j) - mNew g i m (ix2 k j)) := by
    unfold sNew mNew
    rw [pay1421_eq, smV_at, pay1422_at]
  have hl : lNew g i lab l (ix2 k j) = l (ix2 k j)
      + ∑ a : Fin 64, Scalar.select (IntOp.cmpi .eq (k0_pay1418 (BitVec.ofNat 32 (i 0).val) (ix2 ⟨a.val * 8 + k.val, by omega⟩ j)) (lab (ix2 0 j)))
          (k0_pay1419 (F := Ideal) g (k0_pay1418 (BitVec.ofNat 32 (i 0).val)) (ix3 a k j)) (0 : EReal) := by
    unfold lNew
    rw [pay1423_eq, lbV_at]
  rw [hs, hl, hm]
  refine H.step _ _ hg fun a => ?_
  rw [hr, hg, cmpi_eq_ite, select_ite, hh]

end Cert.KernelIdeal.Hand

end
-- ==== Proof.PointRun.lean ====
/-
  One grid point's run, stated by what its buffers read before and after.
-/
module

public import proofs.«01_k».proof.Proof.Step
public import proofs.«01_k».proof.Proof.Frames

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] bodyRun

local notation "𝕄" => MT nD τ sig Unit (Elt F) ℕ (UR sig nD τ) ℕ

variable (c : Dev nD) (i : grid0.Coords)
    (M1 : Memref sig .tc .vmem S2x256x8192 .bf16) (h1 : M1.IsWhole) (M2 : Memref sig .tc .vmem S512x8192 .fp8e4m3) (h2 : M2.IsWhole) (M3 : Memref sig .tc .smem S127x64 .f32) (h3 : M3.IsWhole) (M4 : Memref sig .tc .vmem S1x512 .i32) (h4 : M4.IsWhole) (M5 : Memref sig .tc .vmem S1x512 .f32) (h5 : M5.IsWhole) (M6 : Memref sig .tc .vmem S2x256x8192 .fp8e4m3) (h6 : M6.IsWhole) (M7 : Memref sig .tc .vmem S2x256x64 .f32) (h7 : M7.IsWhole) (M8 : Memref sig .tc .vmem S512x8192 .bf16) (h8 : M8.IsWhole) (M9 : Memref sig .tc .vmem S512x8192 .bf16) (h9 : M9.IsWhole) (M10 : Memref sig .tc .vmem S8x512 .f32) (h10 : M10.IsWhole) (M11 : Memref sig .tc .vmem S8x512 .f32) (h11 : M11.IsWhole) (M12 : Memref sig .tc .vmem S8x512 .f32) (h12 : M12.IsWhole)
    (X : Vec F S2x256x8192 .bf16) (W : Vec F S512x8192 .fp8e4m3) (S : Vec F S127x64 .f32) (L : Vec F S1x512 .i32)
    (Z4 : Vec F S1x512 .f32) (Z5 : Vec F S2x256x8192 .fp8e4m3) (Z6 : Vec F S2x256x64 .f32)
    (f8 : Bf (F := F) c M8) (f9 : Bf (F := F) c M9) (f10 : Bf (F := F) c M10) (f11 : Bf (F := F) c M11) (f12 : Bf (F := F) c M12)

include h5 h6 h7 h8 h9 h10 h11 h12 in
/-- What a point leaves, from what its buffers read afterwards. -/
theorem point_out (g5 : Bf (F := F) c M5) (g6 : Bf (F := F) c M6) (g7 : Bf (F := F) c M7) (g8 : Bf (F := F) c M8) (g9 : Bf (F := F) c M9) (g10 : Bf (F := F) c M10) (g11 : Bf (F := F) c M11) (g12 : Bf (F := F) c M12)
    (q5 : M5.view.read (Elt F) g5 = (if k0_cond2 i = 1#1 then k0_pay1 (mNew (lgV W S i (xwN i X (M8.view.read (Elt F) f8))) i (rst i k0_pay2 (M10.view.read (Elt F) f10))) (sNew (lgV W S i (xwN i X (M8.view.read (Elt F) f8))) i (rst i k0_pay2 (M10.view.read (Elt F) f10)) (rst i k0_pay3 (M11.view.read (Elt F) f11))) (lNew (lgV W S i (xwN i X (M8.view.read (Elt F) f8))) i L (rst i k0_pay4 (M12.view.read (Elt F) f12))) else Z4)) (q6 : M6.view.read (Elt F) g6 = (if k0_cond1 i = 1#1 then codesV X else Z5)) (q7 : M7.view.read (Elt F) g7 = (if k0_cond1 i = 1#1 then scaleV X else Z6))
    (q8 : M8.view.read (Elt F) g8 = xwN i X (M8.view.read (Elt F) f8)) (q10 : M10.view.read (Elt F) g10 = (mNew (lgV W S i (xwN i X (M8.view.read (Elt F) f8))) i (rst i k0_pay2 (M10.view.read (Elt F) f10)))) (q11 : M11.view.read (Elt F) g11 = (sNew (lgV W S i (xwN i X (M8.view.read (Elt F) f8))) i (rst i k0_pay2 (M10.view.read (Elt F) f10)) (rst i k0_pay3 (M11.view.read (Elt F) f11)))) (q12 : M12.view.read (Elt F) g12 = (lNew (lgV W S i (xwN i X (M8.view.read (Elt F) f8))) i L (rst i k0_pay4 (M12.view.read (Elt F) f12)))) :
    (iprop(pt c M1 (h1.unread X) ∗ pt c M2 (h2.unread W) ∗ pt c M3 (h3.unread S) ∗ pt c M4 (h4.unread L) ∗ pt c M5 g5 ∗ pt c M6 g6 ∗ pt c M7 g7 ∗ pt c M8 g8 ∗ pt c M9 g9 ∗ pt c M10 g10 ∗ pt c M11 g11 ∗ pt c M12 g12) : sProp 𝕄) ⊢ iprop(owns (c : Thread nD τ) M1 fullShare X ∗ owns (c : Thread nD τ) M2 fullShare W ∗ owns (c : Thread nD τ) M3 fullShare S ∗ owns (c : Thread nD τ) M4 fullShare L ∗ owns (c : Thread nD τ) M5 fullShare (if k0_cond2 i = 1#1 then k0_pay1 (mNew (lgV W S i (xwN i X (M8.view.read (Elt F) f8))) i (rst i k0_pay2 (M10.view.read (Elt F) f10))) (sNew (lgV W S i (xwN i X (M8.view.read (Elt F) f8))) i (rst i k0_pay2 (M10.view.read (Elt F) f10)) (rst i k0_pay3 (M11.view.read (Elt F) f11))) (lNew (lgV W S i (xwN i X (M8.view.read (Elt F) f8))) i L (rst i k0_pay4 (M12.view.read (Elt F) f12))) else Z4) ∗ owns (c : Thread nD τ) M6 fullShare (if k0_cond1 i = 1#1 then codesV X else Z5) ∗ owns (c : Thread nD τ) M7 fullShare (if k0_cond1 i = 1#1 then scaleV X else Z6) ∗ (∃ g8 g9 g10 g11 g12, pt c M8 g8 ∗ pt c M9 g9 ∗ pt c M10 g10 ∗ pt c M11 g11 ∗ pt c M12 g12 ∗ ⌜M8.view.read (Elt F) g8 = xwN i X (M8.view.read (Elt F) f8) ∧ M10.view.read (Elt F) g10 = (mNew (lgV W S i (xwN i X (M8.view.read (Elt F) f8))) i (rst i k0_pay2 (M10.view.read (Elt F) f10))) ∧ M11.view.read (Elt F) g11 = (sNew (lgV W S i (xwN i X (M8.view.read (Elt F) f8))) i (rst i k0_pay2 (M10.view.read (Elt F) f10)) (rst i k0_pay3 (M11.view.read (Elt F) f11))) ∧ M12.view.read (Elt F) g12 = (lNew (lgV W S i (xwN i X (M8.view.read (Elt F) f8))) i L (rst i k0_pay4 (M12.view.read (Elt F) f12)))⌝)) := by
  iintro ⟨H1, H2, H3, H4, H5, H6, H7, H8, H9, H10, H11, H12⟩
  isplitl [H1]
  · have e := pt_owns c M1 h1 (h1.unread X)
    rw [h1.read_unread] at e
    iapply e; iexact H1
  isplitl [H2]
  · have e := pt_owns c M2 h2 (h2.unread W)
    rw [h2.read_unread] at e
    iapply e; iexact H2
  isplitl [H3]
  · have e := pt_owns c M3 h3 (h3.unread S)
    rw [h3.read_unread] at e
    iapply e; iexact H3
  isplitl [H4]
  · have e := pt_owns c M4 h4 (h4.unread L)
    rw [h4.read_unread] at e
    iapply e; iexact H4
  isplitl [H5]
  · rw [← q5]; iapply (pt_owns c M5 h5); iexact H5
  isplitl [H6]
  · rw [← q6]; iapply (pt_owns c M6 h6); iexact H6
  isplitl [H7]
  · rw [← q7]; iapply (pt_owns c M7 h7); iexact H7
  iexists g8, g9, g10, g11, g12
  isplitl [H8]; · iexact H8
  isplitl [H9]; · iexact H9
  isplitl [H10]; · iexact H10
  isplitl [H11]; · iexact H11
  isplitl [H12]; · iexact H12
  ipureintro
  exact ⟨q8, q10, q11, q12⟩

set_option maxHeartbeats 4000000 in
/-- The run of the body, with what the buffers it writes read afterwards. -/
theorem run_reads :
    ∃ (g5 : Bf (F := F) c M5) (g6 : Bf (F := F) c M6) (g7 : Bf (F := F) c M7) (g8 : Bf (F := F) c M8) (g9 : Bf (F := F) c M9) (g10 : Bf (F := F) c M10) (g11 : Bf (F := F) c M11) (g12 : Bf (F := F) c M12),
      (M5.view.read (Elt F) g5 = (if k0_cond2 i = 1#1 then k0_pay1 (mNew (lgV W S i (xwN i X (M8.view.read (Elt F) f8))) i (rst i k0_pay2 (M10.view.read (Elt F) f10))) (sNew (lgV W S i (xwN i X (M8.view.read (Elt F) f8))) i (rst i k0_pay2 (M10.view.read (Elt F) f10)) (rst i k0_pay3 (M11.view.read (Elt F) f11))) (lNew (lgV W S i (xwN i X (M8.view.read (Elt F) f8))) i L (rst i k0_pay4 (M12.view.read (Elt F) f12))) else Z4) ∧ M6.view.read (Elt F) g6 = (if k0_cond1 i = 1#1 then codesV X else Z5) ∧ M7.view.read (Elt F) g7 = (if k0_cond1 i = 1#1 then scaleV X else Z6)
        ∧ M8.view.read (Elt F) g8 = xwN i X (M8.view.read (Elt F) f8) ∧ M10.view.read (Elt F) g10 = (mNew (lgV W S i (xwN i X (M8.view.read (Elt F) f8))) i (rst i k0_pay2 (M10.view.read (Elt F) f10))) ∧ M11.view.read (Elt F) g11 = (sNew (lgV W S i (xwN i X (M8.view.read (Elt F) f8))) i (rst i k0_pay2 (M10.view.read (Elt F) f10)) (rst i k0_pay3 (M11.view.read (Elt F) f11))) ∧ M12.view.read (Elt F) g12 = (lNew (lgV W S i (xwN i X (M8.view.read (Elt F) f8))) i L (rst i k0_pay4 (M12.view.read (Elt F) f12))))
      ∧ ∀ (E : Set ℕ) (Q : PUnit → sProp 𝕄),
        iprop(pt c M1 (h1.unread X) ∗ pt c M2 (h2.unread W) ∗ pt c M3 (h3.unread S) ∗ pt c M4 (h4.unread L) ∗ pt c M5 (h5.unread Z4) ∗ pt c M6 (h6.unread Z5) ∗ pt c M7 (h7.unread Z6) ∗ pt c M8 f8 ∗ pt c M9 f9 ∗ pt c M10 f10 ∗ pt c M11 f11 ∗ pt c M12 f12 ∗ (iprop(pt c M1 (h1.unread X) ∗ pt c M2 (h2.unread W) ∗ pt c M3 (h3.unread S) ∗ pt c M4 (h4.unread L) ∗ pt c M5 g5 ∗ pt c M6 g6 ∗ pt c M7 g7 ∗ pt c M8 g8 ∗ pt c M9 g9 ∗ pt c M10 g10 ∗ pt c M11 g11 ∗ pt c M12 g12) -∗ Q ⟨⟩))
        ⊢ wp Idealize.ShloMosaic.frame (wpE (defs₀ (F := F)) Variants.none c none) E (cc0_fp8_linear_ce i M1 h1 M2 h2 M3 h3 M4 h4 M5 h5 M6 h6 M7 h7 M8 h8 M9 h9 M10 h10 M11 h11 M12 h12) Q := by
  have q5 := rd5 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  have q6 := rd6 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  have q7 := rd7 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  have q8 := rd8 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  have q10 := rd10 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  have q11 := rd11 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  have q12 := rd12 c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12
  unfold m10 s11 l12 lgP at q5
  unfold m10 lgP at q10
  unfold s11 lgP at q11
  unfold l12 lgP at q12
  rw [h1.read_unread, h2.read_unread, h3.read_unread, h4.read_unread, h5.read_unread] at q5
  rw [h1.read_unread, h6.read_unread] at q6
  rw [h1.read_unread, h7.read_unread] at q7
  rw [h1.read_unread] at q8
  rw [h1.read_unread, h2.read_unread, h3.read_unread] at q10 q11
  rw [h1.read_unread, h2.read_unread, h3.read_unread, h4.read_unread] at q12
  exact ⟨(bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.2.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.2.2.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.2.2.2.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.2.2.2.2.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.2.2.2.2.2.1, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).1.2.2.2.2.2.2.2, ⟨q5, q6, q7, q8, q10, q11, q12⟩, (bodyRun c i M1 h1 M2 h2 M3 h3 M4 h4 M5 h5 M6 h6 M7 h7 M8 h8 M9 h9 M10 h10 M11 h11 M12 h12 (h1.unread X) (h2.unread W) (h3.unread S) (h4.unread L) (h5.unread Z4) (h6.unread Z5) (h7.unread Z6) f8 f9 f10 f11 f12).2⟩

/-- The body at any buffers: the inputs are left as they are; the codes, the scales and the loss are stored at the points that
    store them; the scratch buffers are taken one tile further. -/
theorem point_run :
    (iprop(owns (c : Thread nD τ) M1 fullShare X ∗ owns (c : Thread nD τ) M2 fullShare W ∗ owns (c : Thread nD τ) M3 fullShare S ∗ owns (c : Thread nD τ) M4 fullShare L ∗ owns (c : Thread nD τ) M5 fullShare Z4 ∗ owns (c : Thread nD τ) M6 fullShare Z5 ∗ owns (c : Thread nD τ) M7 fullShare Z6 ∗ pt c M8 f8 ∗ pt c M9 f9 ∗ pt c M10 f10 ∗ pt c M11 f11 ∗ pt c M12 f12) : sProp 𝕄)
      ⊢ wp Idealize.ShloMosaic.frame (wpE (defs₀ (F := F)) Variants.none c none) Set.univ (cc0_fp8_linear_ce i M1 h1 M2 h2 M3 h3 M4 h4 M5 h5 M6 h6 M7 h7 M8 h8 M9 h9 M10 h10 M11 h11 M12 h12) fun _ =>
        iprop(owns (c : Thread nD τ) M1 fullShare X ∗ owns (c : Thread nD τ) M2 fullShare W ∗ owns (c : Thread nD τ) M3 fullShare S ∗ owns (c : Thread nD τ) M4 fullShare L ∗ owns (c : Thread nD τ) M5 fullShare (if k0_cond2 i = 1#1 then k0_pay1 (mNew (lgV W S i (xwN i X (M8.view.read (Elt F) f8))) i (rst i k0_pay2 (M10.view.read (Elt F) f10))) (sNew (lgV W S i (xwN i X (M8.view.read (Elt F) f8))) i (rst i k0_pay2 (M10.view.read (Elt F) f10)) (rst i k0_pay3 (M11.view.read (Elt F) f11))) (lNew (lgV W S i (xwN i X (M8.view.read (Elt F) f8))) i L (rst i k0_pay4 (M12.view.read (Elt F) f12))) else Z4) ∗ owns (c : Thread nD τ) M6 fullShare (if k0_cond1 i = 1#1 then codesV X else Z5) ∗ owns (c : Thread nD τ) M7 fullShare (if k0_cond1 i = 1#1 then scaleV X else Z6)
          ∗ (∃ g8 g9 g10 g11 g12, pt c M8 g8 ∗ pt c M9 g9 ∗ pt c M10 g10 ∗ pt c M11 g11 ∗ pt c M12 g12 ∗ ⌜M8.view.read (Elt F) g8 = xwN i X (M8.view.read (Elt F) f8) ∧ M10.view.read (Elt F) g10 = (mNew (lgV W S i (xwN i X (M8.view.read (Elt F) f8))) i (rst i k0_pay2 (M10.view.read (Elt F) f10))) ∧ M11.view.read (Elt F) g11 = (sNew (lgV W S i (xwN i X (M8.view.read (Elt F) f8))) i (rst i k0_pay2 (M10.view.read (Elt F) f10)) (rst i k0_pay3 (M11.view.read (Elt F) f11))) ∧ M12.view.read (Elt F) g12 = (lNew (lgV W S i (xwN i X (M8.view.read (Elt F) f8))) i L (rst i k0_pay4 (M12.view.read (Elt F) f12)))⌝)) := by
  obtain ⟨g5, g6, g7, g8, g9, g10, g11, g12, ⟨q5, q6, q7, q8, q10, q11, q12⟩, hrun⟩ := run_reads c i M1 h1 M2 h2 M3 h3 M4 h4 M5 h5 M6 h6 M7 h7 M8 h8 M9 h9 M10 h10 M11 h11 M12 h12 X W S L Z4 Z5 Z6 f8 f9 f10 f11 f12
  iintro ⟨H1, H2, H3, H4, H5, H6, H7, H8, H9, H10, H11, H12⟩
  iapply hrun Set.univ
  isplitl [H1]; · iapply (owns_pt c _ h1 X); iexact H1
  isplitl [H2]; · iapply (owns_pt c _ h2 W); iexact H2
  isplitl [H3]; · iapply (owns_pt c _ h3 S); iexact H3
  isplitl [H4]; · iapply (owns_pt c _ h4 L); iexact H4
  isplitl [H5]; · iapply (owns_pt c _ h5 Z4); iexact H5
  isplitl [H6]; · iapply (owns_pt c _ h6 Z5); iexact H6
  isplitl [H7]; · iapply (owns_pt c _ h7 Z6); iexact H7
  isplitl [H8]; · iexact H8
  isplitl [H9]; · iexact H9
  isplitl [H10]; · iexact H10
  isplitl [H11]; · iexact H11
  isplitl [H12]; · iexact H12
  iintro Hs
  iapply (point_out c i M1 h1 M2 h2 M3 h3 M4 h4 M5 h5 M6 h6 M7 h7 M8 h8 M9 h9 M10 h10 M11 h11 M12 h12 X W S L Z4 Z5 Z6 f8 f10 f11 f12 g5 g6 g7 g8 g9 g10 g11 g12 q5 q6 q7 q8 q10 q11 q12)
  iexact Hs

end Cert.KernelIdeal.Hand

end
-- ==== Proof.Blocks.lean ====
/-
  The blocks the pipeline stages, read off the argument arrays.
-/
module

public import proofs.«01_k».proof.Proof.Gen.KernelIdeal.Frame
public import proofs.«01_k».proof.Proof.Gen.KernelIdeal.Points
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL
open Idealize.ShloMosaic.Pipeline (Dat Cfg Window)

variable {F : FTy → Type} [FloatOps F]

variable (m : (ℓ : Loc nD τ sig) → Buf (Elt F) ℓ) (c : Dev nD)

/-- The arguments, as the launch finds them: activations, weight codes, weight scales, labels. -/
def aX : Vec F S2x256x8192 .bf16 := m ((c : Thread nD τ).loc main_arg0)
@[inherit_doc aX] def aW : Vec F S16256x8192 .fp8e4m3 := m ((c : Thread nD τ).loc main_arg1)
@[inherit_doc aX] def aS : Vec F S127x64 .f32 := m ((c : Thread nD τ).loc main_arg2)
@[inherit_doc aX] def aL : Vec F S2x256 .i32 := m ((c : Thread nD τ).loc main_arg3)

theorem coords_val : ∀ t : Fin cfg0.N, (grid0.coords t 0).val = t.val := (by decide +kernel : ∀ t : Fin grid0.N, (grid0.coords t 0).val = t.val)

theorem cond1_iff : ∀ t : Fin cfg0.N, k0_cond1 (grid0.coords t) = 1#1 ↔ t.val = 0 :=
  (by decide +kernel : ∀ t : Fin grid0.N, k0_cond1 (grid0.coords t) = 1#1 ↔ t.val = 0)

theorem cond2_iff : ∀ t : Fin cfg0.N, k0_cond2 (grid0.coords t) = 1#1 ↔ t.val = 31 :=
  (by decide +kernel : ∀ t : Fin grid0.N, k0_cond2 (grid0.coords t) = 1#1 ↔ t.val = 31)

theorem index0 : ∀ t : Fin cfg0.N, win0_0.index t = ![0, 0, 0] := (by decide +kernel : ∀ t : Fin grid0.N, win0_0.index t = ![0, 0, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])

theorem iblk0_eq (t : Fin cfg0.N) : iblk m c 0 t = aX m c := by
  funext y
  blk_simp [iblk]
  rw [V_main_arg0]
  refine congrArg (m ((c : Thread nD τ).loc main_arg0)) ?_
  blk_ext [index0]

theorem iblk2_eq (t : Fin cfg0.N) : iblk m c 2 t = aS m c := by
  funext y
  blk_simp [iblk]
  rw [V_main_arg2]
  refine congrArg (m ((c : Thread nD τ).loc main_arg2)) ?_
  blk_ext [index2]

/-- The labels as one row. -/
def labV : Vec F S1x512 .i32 := shapeCast S1x512 (aL m c) (by decide)

theorem labV_at (j : Fin 512) : labV m c (ix2 0 j) = aL m c (ix2 ⟨j.val / 256, by omega⟩ ⟨j.val % 256, by omega⟩) := by
  unfold labV
  generalize aL m c = z
  pointwise

theorem iblk3_eq (t : Fin cfg0.N) : iblk m c 3 t = labV m c := by
  funext y
  blk_simp [iblk]
  trans V m c main_v0 y
  · refine congrArg (V m c main_v0) ?_
    blk_ext [index3]
  · entry_read
    rfl

theorem xsize1_0 : ∀ t : Fin cfg0.N, win0_1.xsize (grid0.coords t) (0 : Fin 2) = min 512 (16256 - t.val * 512) :=
  (by decide +kernel : ∀ t : Fin grid0.N, win0_1.xsize (grid0.coords t) (0 : Fin 2) = min 512 (16256 - t.val * 512))
theorem xsize1_1 : ∀ t : Fin cfg0.N, win0_1.xsize (grid0.coords t) (1 : Fin 2) = 8192 :=
  (by decide +kernel : ∀ t : Fin grid0.N, win0_1.xsize (grid0.coords t) (1 : Fin 2) = 8192)

/-- The staged tile of weight codes, at a row inside the array, is the array's. -/
theorem fill1_at (t : Fin cfg0.N) (d : Vec F S512x8192 .fp8e4m3) (v : Fin 512) (k : Fin 8192) (h : t.val * 512 + v.val < 16256) :
    win0_1.fill (grid0.coords t) d (iblk m c 1 t) (ix2 v k) = aW m c (ix2 ⟨t.val * 512 + v.val, h⟩ k) := by
  have hm : win0_1.moved (grid0.coords t) (ix2 v k) = true := by
    refine (win0_1.moved_iff _ _).mpr fun a => ?_
    have hv := v.isLt
    have hk := k.isLt
    fin_cases a
    · refine lt_of_lt_of_le ?_ (xsize1_0 t).ge
      show v.val < min 512 (16256 - t.val * 512)
      omega
    · exact lt_of_lt_of_le (show k.val < 8192 from hk) (xsize1_1 t).ge
  unfold Pipeline.Window.fill
  rw [dif_pos hm]
  blk_simp [iblk]
  rw [V_main_arg1]
  refine congrArg (m ((c : Thread nD τ).loc main_arg1)) ?_
  blk_ext [index1]

end Cert.KernelIdeal.Hand

end
-- ==== Proof.Value.lean ====
/-
  What the kernel computes: the run of the launch with, at each grid point, what the buffers hold. The codes and the scales are written
  at the first point and kept; the three running buffers hold, after `n` points, the state of `Lse` after `n` tiles of
  vocabulary rows; the loss is written at the last point.
-/
module

public import proofs.«01_k».proof.Proof.PointRun
public import proofs.«01_k».proof.Proof.Blocks
public import proofs.«01_k».proof.Proof.Frames
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-! ## What is computed -/

/-- The logit of vocabulary row `r` for token `j`; `⊥` past the vocabulary's end. -/
def kF (j : Fin 512) (r : ℕ) : EReal :=
  if h : r < 16256 then ∑ d : Fin 8192, aW m c (ix2 ⟨r, h⟩ d) * aS m c (ix2 ⟨r / 128, by omega⟩ ⟨d.val / 128, by omega⟩) * xwV (aX m c) (ix2 j d) else ⊥

/-- The logit at the token's label, nothing elsewhere. -/
def kH (j : Fin 512) (r : ℕ) : EReal := if BitVec.ofNat 32 r = labV m c (ix2 0 j) then kF m c j r else 0

/-- The largest logit of a token. -/
def kMax (j : Fin 512) : EReal := (Finset.range 16384).fold max ⊥ (kF m c j)

/-- The losses, as one row. -/
def lossV : Vec Ideal S1x512 .f32 := fun y =>
  kMax m c (y 1) + Ideal.log (∑ r ∈ Finset.range 16384, Ideal.exp (kF m c (y 1) r - kMax m c (y 1)))
    - (∑ r ∈ Finset.range 16384, kH m c (y 1) r) - Ideal.ofBits FTy.f32 0x411B23B5#32

/-- What the scratch buffers hold after `n` points: nothing is known before the first. -/
structure Inv (n : ℕ) (xw : Vec Ideal S512x8192 .bf16) (mm ss ll : Vec Ideal S8x512 .f32) : Prop where
  xw : 0 < n → xw = xwV (aX m c)
  st : 0 < n → ∀ (k : Fin 8) (j : Fin 512), Lse.State (kF m c j) (kH m c j) k n (mm (ix2 k j)) (ss (ix2 k j)) (ll (ix2 k j))

/-- The staged tile of weight codes at a point, whatever lies past the array's end. -/
abbrev tileW (t : Fin cfg0.N) (d : Vec Ideal S512x8192 .fp8e4m3) : Vec Ideal S512x8192 .fp8e4m3 := win0_1.fill (grid0.coords t) d (iblk m c 1 t)

theorem N32 (t : Fin cfg0.N) : t.val < 32 := lt_of_lt_of_eq t.isLt (by decide +kernel : grid0.N = 32)

/-- The scratch buffers after one point more. -/
theorem Inv.step (t : Fin cfg0.N) (d : Vec Ideal S512x8192 .fp8e4m3) (xw : Vec Ideal S512x8192 .bf16) (mm ss ll : Vec Ideal S8x512 .f32)
    (H : Inv m c t.val xw mm ss ll) :
    Inv m c (t.val + 1) (xwN (grid0.coords t) (aX m c) xw)
      (mNew (lgV (tileW m c t d) (aS m c) (grid0.coords t) (xwN (grid0.coords t) (aX m c) xw)) (grid0.coords t) (rst (grid0.coords t) (k0_pay2 (F := Ideal)) mm))
      (sNew (lgV (tileW m c t d) (aS m c) (grid0.coords t) (xwN (grid0.coords t) (aX m c) xw)) (grid0.coords t) (rst (grid0.coords t) (k0_pay2 (F := Ideal)) mm) (rst (grid0.coords t) (k0_pay3 (F := Ideal)) ss))
      (lNew (lgV (tileW m c t d) (aS m c) (grid0.coords t) (xwN (grid0.coords t) (aX m c) xw)) (grid0.coords t) (labV m c) (rst (grid0.coords t) (k0_pay4 (F := Ideal)) ll)) := by
  have ht := N32 t
  have hx : xwN (grid0.coords t) (aX m c) xw = xwV (aX m c) := by
    unfold xwN
    split
    · rfl
    · exact H.xw (Nat.pos_of_ne_zero fun h => ‹¬_› ((cond1_iff t).mpr h))
  rw [hx]
  refine ⟨fun _ => rfl, fun _ k j => ?_⟩
  refine step_state _ (grid0.coords t) _ _ _ (labV m c) (kF m c j) (kH m c j) t.val ht (coords_val t) j k (fun v => ?_) (fun r => rfl) ?_
  · have hv := v.isLt
    unfold kF
    split
    · rename_i h
      unfold lgV
      rw [pay1417_at]
      refine Finset.sum_congr rfl fun e _ => ?_
      rw [wV_at]
      refine congrArg₂ (· * ·) (congrArg₂ (· * ·) (fill1_at m c t d v e h).symm (congrArg (fun a => aS m c (ix2 a _)) (Fin.ext ?_))) rfl
      show (t.val * 512 + v.val) / 128 = min (4 * (grid0.coords t 0).val + v.val / 128) 126
      rw [coords_val]
      omega
    · rfl
  · unfold rst
    by_cases h : t.val = 0
    · rw [if_pos ((cond1_iff t).mpr h), if_pos ((cond1_iff t).mpr h), if_pos ((cond1_iff t).mpr h), pay2_at, pay3_at, pay4_at, h, ofBits_ninf]
      exact Lse.State.zero _ _ _
    · have h' := fun e => h ((cond1_iff t).mp e)
      rw [if_neg h', if_neg h', if_neg h']
      exact H.st (Nat.pos_of_ne_zero h) k j

/-- The loss, from the running buffers after the last tile. -/
theorem Inv.loss (xw : Vec Ideal S512x8192 .bf16) (mm ss ll : Vec Ideal S8x512 .f32) (H : Inv m c 32 xw mm ss ll) : k0_pay1 (F := Ideal) mm ss ll = lossV m c := by
  funext y
  obtain ⟨a, j, rfl⟩ : ∃ (a : Fin 1) (j : Fin 512), y = ix2 a j := ⟨y 0, y 1, by funext b; fin_cases b <;> rfl⟩
  obtain rfl : a = 0 := Subsingleton.elim _ _
  obtain ⟨h1, h2, h3, h4⟩ := Lse.State.join fun k => H.st (by decide) k j
  rw [pay1_at, ofBits_ninf]
  have hM : (Finset.univ.fold max ⊥ fun k : Fin 8 => mm (ix2 k j)) = kMax m c j := by
    refine le_antisymm (h4 _ fun v hv => Lse.le_fold_max _ _ (Finset.mem_range.mpr hv)) ?_
    exact (Lse.fold_max_le _ _ _).mpr fun v hv => h3 v (Finset.mem_range.mp hv)
  rw [h1, h2, hM]
  rfl

/-! ## The proof data -/

/-- What is known of the scratch buffers after `n` points, with the buffers. -/
def PhiV (n : ℕ) : sProp 𝕄 :=
  iprop(∃ f8 f9 f10 f11 f12, pt c (Memref.whole cc0_scratch0) f8 ∗ pt c (Memref.whole cc0_scratch1) f9 ∗ pt c (Memref.whole cc0_scratch2) f10
    ∗ pt c (Memref.whole cc0_scratch3) f11 ∗ pt c (Memref.whole cc0_scratch4) f12
    ∗ ⌜Inv m c n ((Memref.whole cc0_scratch0).view.read (Elt Ideal) f8) ((Memref.whole cc0_scratch2).view.read (Elt Ideal) f10)
        ((Memref.whole cc0_scratch3).view.read (Elt Ideal) f11) ((Memref.whole cc0_scratch4).view.read (Elt Ideal) f12)⌝
    ∗ (∃ r, prngReg c r))

/-- The inputs' buffers hold their blocks; the results' hold the loss, the codes and the scales. -/
def vafter (w : Fin cfg0.W) (t : Fin cfg0.N) : (cfg0.win w).block.Idx → Elt Ideal (cfg0.win w).elt :=
  match w with
  | 0 => iblk m c 0 t
  | 1 => tileW m c t (fun _ => Classical.arbitrary _)
  | 2 => iblk m c 2 t
  | 3 => iblk m c 3 t
  | 4 => lossV m c
  | 5 => codesV (aX m c)
  | 6 => scaleV (aX m c)

def vdats (_ : Fin 1) (c : Dev nD) : Dat τ (Elt Ideal) Unit ℕ (UR sig nD τ) ℕ cfg0 c where
  A w := V m c (Pipeline.arrRef spec0 w)
  after := vafter m c
  Φ t := PhiV m c t.val
  q _ := fullShare
  owed _ := 0

/-- A buffer handed back at a point, for a window stated exactly: what it must hold. -/
theorem leaves_of (dat : Dat τ (Elt Ideal) Unit ℕ (UR sig nD τ) ℕ cfg0 c) (w : Fin cfg0.W) (t : Fin cfg0.N) (Y : (cfg0.win w).block.Idx → Elt Ideal (cfg0.win w).elt)
    (h1 : (cfg0.idle w (cfg0.grid.coords t) = true → (cfg0.win w).flush t = true) → Y = dat.after w t)
    (h2 : cfg0.idle w (cfg0.grid.coords t) = true → (cfg0.win w).flush t = false → ∃ d, Y = dat.before w t d) :
    (owns (c : Thread nD τ) ((cfg0.win w).stage (cfg0.slots t w)) fullShare Y : sProp 𝕄) ⊢ dat.leaves w t := by
  have key : (owns (c : Thread nD τ) ((cfg0.win w).stage (cfg0.slots t w)) fullShare Y : sProp 𝕄) ⊢ dat.leavesExact w t := by
    unfold Dat.leavesExact
    cases hi : cfg0.idle w (cfg0.grid.coords t)
    · rw [h1 fun h => absurd (hi.symm.trans h) Bool.false_ne_true]
    · cases hf : (cfg0.win w).flush t
      · obtain ⟨d, rfl⟩ := h2 hi hf
        iintro H
        iexists d
        iexact H
      · rw [h1 fun _ => hf]
  exact key.trans (dat.leaves_intro w t)

theorem before_5 (t : Fin cfg0.N) (ht : t.val ≠ 0) (d) : (vdats m 0 c).before 5 t d = codesV (aX m c) := by
  have hfr : cfg0.fresh 5 t.val = decide (t.val = 0 ∨ t.val = 32) :=
    Cfg.fresh_tab cfg0 5 (fun n => decide (n = 0 ∨ n = 32)) rfl
      (by decide +kernel : ∀ t : Fin grid0.N, decide (t.val + 1 = 0 ∨ t.val + 1 = 32) = (win0_5.flush t || (idle0 5 (grid0.coords t) && decide (t.val = 0 ∨ t.val = 32)))) t.val (le_of_lt t.isLt)
  rw [(vdats m 0 c).before_out_traj 5 rfl (fun _ _ => rfl) (fun _ _ _ _ => rfl) t.val t rfl d, hfr, if_neg (by simp [ht, (N32 t).ne])]
  rfl

theorem before_6 (t : Fin cfg0.N) (ht : t.val ≠ 0) (d) : (vdats m 0 c).before 6 t d = scaleV (aX m c) := by
  have hfr : cfg0.fresh 6 t.val = decide (t.val = 0 ∨ t.val = 32) :=
    Cfg.fresh_tab cfg0 6 (fun n => decide (n = 0 ∨ n = 32)) rfl
      (by decide +kernel : ∀ t : Fin grid0.N, decide (t.val + 1 = 0 ∨ t.val + 1 = 32) = (win0_6.flush t || (idle0 6 (grid0.coords t) && decide (t.val = 0 ∨ t.val = 32)))) t.val (le_of_lt t.isLt)
  rw [(vdats m 0 c).before_out_traj 6 rfl (fun _ _ => rfl) (fun _ _ _ _ => rfl) t.val t rfl d, hfr, if_neg (by simp [ht, (N32 t).ne])]
  rfl

theorem leave_4 (t : Fin cfg0.N) (Z d) (L : Vec Ideal S1x512 .f32) (hL : t.val = 31 → L = lossV m c) (hZ : (vdats m 0 c).before 4 t d = Z) :
    (owns (c : Thread nD τ) (st0_4 t) fullShare (if k0_cond2 (grid0.coords t) = 1#1 then L else Z) : sProp 𝕄) ⊢ (vdats m 0 c).leaves 4 t := by
  refine leaves_of c (vdats m 0 c) 4 t _ (fun h => ?_) (fun hi _ => ?_)
  · by_cases h31 : t.val = 31
    · rw [if_pos ((cond2_iff t).mpr h31)]
      exact hL h31
    · have hi : (!(k0_cond2 (grid0.coords t) == 1#1)) = true := by
        rw [beq_eq_false_iff_ne.mpr fun e => h31 ((cond2_iff t).mp e)]; rfl
      have := (flush0_4 t).mp (h hi)
      have := N32 t
      omega
  · have hc : ¬ k0_cond2 (grid0.coords t) = 1#1 := fun e => by
      have hi : (!(k0_cond2 (grid0.coords t) == 1#1)) = true := hi
      rw [e] at hi; exact absurd hi (by decide)
    exact ⟨d, (if_neg hc).trans hZ.symm⟩

theorem leave_5 (t : Fin cfg0.N) (Z d) (hZ : (vdats m 0 c).before 5 t d = Z) :
    (owns (c : Thread nD τ) (st0_5 t) fullShare (if k0_cond1 (grid0.coords t) = 1#1 then codesV (aX m c) else Z) : sProp 𝕄) ⊢ (vdats m 0 c).leaves 5 t := by
  refine leaves_of c (vdats m 0 c) 5 t _ (fun h => ?_) (fun hi _ => ?_)
  · by_cases h0 : t.val = 0
    · rw [if_pos ((cond1_iff t).mpr h0)]; rfl
    · rw [if_neg fun e => h0 ((cond1_iff t).mp e), ← hZ]
      exact before_5 m c t h0 d
  · have hc : ¬ k0_cond1 (grid0.coords t) = 1#1 := fun e => by
      have hi : (!(k0_cond1 (grid0.coords t) == 1#1)) = true := hi
      rw [e] at hi; exact absurd hi (by decide)
    exact ⟨d, (if_neg hc).trans hZ.symm⟩

theorem leave_6 (t : Fin cfg0.N) (Z d) (hZ : (vdats m 0 c).before 6 t d = Z) :
    (owns (c : Thread nD τ) (st0_6 t) fullShare (if k0_cond1 (grid0.coords t) = 1#1 then scaleV (aX m c) else Z) : sProp 𝕄) ⊢ (vdats m 0 c).leaves 6 t := by
  refine leaves_of c (vdats m 0 c) 6 t _ (fun h => ?_) (fun hi _ => ?_)
  · by_cases h0 : t.val = 0
    · rw [if_pos ((cond1_iff t).mpr h0)]; rfl
    · rw [if_neg fun e => h0 ((cond1_iff t).mp e), ← hZ]
      exact before_6 m c t h0 d
  · have hc : ¬ k0_cond1 (grid0.coords t) = 1#1 := fun e => by
      have hi : (!(k0_cond1 (grid0.coords t) == 1#1)) = true := hi
      rw [e] at hi; exact absurd hi (by decide)
    exact ⟨d, (if_neg hc).trans hZ.symm⟩

theorem leave_1 (t : Fin cfg0.N) (d) : (owns (c : Thread nD τ) (st0_1 t) fullShare (tileW m c t d) : sProp 𝕄) ⊢ (vdats m 0 c).leaves 1 t := by
  show _ ⊢ iprop(∃ d', owns (c : Thread nD τ) (st0_1 t) fullShare (win0_1.fill (grid0.coords t) d' (win0_1.cut (grid0.coords t) (tileW m c t (fun _ => Classical.arbitrary _)))))
  iintro H
  iexists d
  rw [show win0_1.cut (grid0.coords t) (tileW m c t (fun _ => Classical.arbitrary _)) = iblk m c 1 t from win0_1.cut_fill _ _ _]
  iexact H

theorem leave_in (t : Fin cfg0.N) :
    ((owns (c : Thread nD τ) (st0_0 t) fullShare (aX m c) : sProp 𝕄) ⊢ (vdats m 0 c).leaves 0 t)
    ∧ ((owns (c : Thread nD τ) (st0_2 t) fullShare (aS m c) : sProp 𝕄) ⊢ (vdats m 0 c).leaves 2 t)
    ∧ ((owns (c : Thread nD τ) (st0_3 t) fullShare (labV m c) : sProp 𝕄) ⊢ (vdats m 0 c).leaves 3 t) :=
  ⟨leaves_of c (vdats m 0 c) 0 t (aX m c) (fun _ => (iblk0_eq m c t).symm) (fun h => absurd h Bool.false_ne_true),
   leaves_of c (vdats m 0 c) 2 t (aS m c) (fun _ => (iblk2_eq m c t).symm) (fun h => absurd h Bool.false_ne_true),
   leaves_of c (vdats m 0 c) 3 t (labV m c) (fun _ => (iblk3_eq m c t).symm) (fun h => absurd h Bool.false_ne_true)⟩

/-- The body at a point. -/
theorem body_value (t : Fin cfg0.N) (R : sProp 𝕄) :
    iprop(PhiV m c t.val ∗ R ∗ (∃ d, owns (c : Thread nD τ) (st0_0 t) fullShare ((vdats m 0 c).before 0 t d)) ∗ (∃ d, owns (c : Thread nD τ) (st0_1 t) fullShare ((vdats m 0 c).before 1 t d)) ∗ (∃ d, owns (c : Thread nD τ) (st0_2 t) fullShare ((vdats m 0 c).before 2 t d)) ∗ (∃ d, owns (c : Thread nD τ) (st0_3 t) fullShare ((vdats m 0 c).before 3 t d)) ∗ (∃ d, owns (c : Thread nD τ) (st0_4 t) fullShare ((vdats m 0 c).before 4 t d)) ∗ (∃ d, owns (c : Thread nD τ) (st0_5 t) fullShare ((vdats m 0 c).before 5 t d)) ∗ (∃ d, owns (c : Thread nD τ) (st0_6 t) fullShare ((vdats m 0 c).before 6 t d)))
      ⊢ wp Idealize.ShloMosaic.frame (wpE (defs₀ (F := Ideal)) Variants.none c none) Set.univ (bodyAt0 t) fun _ =>
        iprop(PhiV m c (t.val + 1) ∗ R ∗ (vdats m 0 c).leaves 0 t ∗ (vdats m 0 c).leaves 1 t ∗ (vdats m 0 c).leaves 2 t ∗ (vdats m 0 c).leaves 3 t ∗ (vdats m 0 c).leaves 4 t ∗ (vdats m 0 c).leaves 5 t ∗ (vdats m 0 c).leaves 6 t) := by
  unfold PhiV
  iintro ⟨⟨%f8, %f9, %f10, %f11, %f12, Q8, Q9, Q10, Q11, Q12, %HI, HR⟩, HO, ⟨%d0, H0⟩, ⟨%d1, H1⟩, ⟨%d2, H2⟩, ⟨%d3, H3⟩, ⟨%X4, H4⟩, ⟨%X5, H5⟩, ⟨%X6, H6⟩⟩
  have e0 : (vdats m 0 c).before 0 t d0 = aX m c := (before0_0_of m (vdats m 0 c) rfl (fun _ => rfl) t d0).trans (iblk0_eq m c t)
  have e2 : (vdats m 0 c).before 2 t d2 = aS m c := (before0_2_of m (vdats m 0 c) rfl (fun _ => rfl) t d2).trans (iblk2_eq m c t)
  have e3 : (vdats m 0 c).before 3 t d3 = labV m c := (before0_3_of m (vdats m 0 c) rfl (fun _ => rfl) t d3).trans (iblk3_eq m c t)
  have e1 : (vdats m 0 c).before 1 t d1 = tileW m c t d1 := (vdats m 0 c).before_fetched 1 t (fetch0_1 t) d1
  rw [e0, e1, e2, e3]
  generalize hX4 : (vdats m 0 c).before 4 t X4 = Z4
  generalize hX5 : (vdats m 0 c).before 5 t X5 = Z5
  generalize hX6 : (vdats m 0 c).before 6 t X6 = Z6
  have P := point_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (aX m c) (tileW m c t d1) (aS m c) (labV m c) Z4 Z5 Z6 f8 f9 f10 f11 f12
  iapply ((sep_mono P BI.BIBase.Entails.rfl).trans (wp_wand_r Idealize.ShloMosaic.frame (wpE (defs₀ (F := Ideal)) Variants.none c none) Set.univ))
  isplitl [H0 H1 H2 H3 H4 H5 H6 Q8 Q9 Q10 Q11 Q12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Q8]; · iexact Q8
    isplitl [Q9]; · iexact Q9
    isplitl [Q10]; · iexact Q10
    isplitl [Q11]; · iexact Q11
    iexact Q12
  iintro %a ⟨H0, H1, H2, H3, H4, H5, H6, %g8, %g9, %g10, %g11, %g12, Q8, Q9, Q10, Q11, Q12, %hq⟩
  obtain ⟨q8, q10, q11, q12⟩ := hq
  have HI' := HI.step m c t d1 _ _ _ _
  have hL := fun h31 : t.val = 31 => Inv.loss m c _ _ _ _ (show Inv m c 32 _ _ _ _ from (congrArg (· + 1) h31 : t.val + 1 = 32) ▸ HI')
  rw [← q10, ← q11, ← q12, ← q8] at HI'
  isplitl [Q8 Q9 Q10 Q11 Q12 HR]
  · iexists g8, g9, g10, g11, g12
    isplitl [Q8]; · iexact Q8
    isplitl [Q9]; · iexact Q9
    isplitl [Q10]; · iexact Q10
    isplitl [Q11]; · iexact Q11
    isplitl [Q12]; · iexact Q12
    isplitr; · ipureintro; exact HI'
    iexact HR
  isplitl [HO]; · iexact HO
  isplitl [H0]; · iapply (leave_in m c t).1; iexact H0
  isplitl [H1]; · iapply (leave_1 m c t d1); iexact H1
  isplitl [H2]; · iapply (leave_in m c t).2.1; iexact H2
  isplitl [H3]; · iapply (leave_in m c t).2.2; iexact H3
  isplitl [H4]; · iapply (leave_4 m c t Z4 X4 _ hL hX4); iexact H4
  isplitl [H5]; · iapply (leave_5 m c t Z5 X5 hX5); iexact H5
  iapply (leave_6 m c t Z6 X6 hX6); iexact H6

end Cert.KernelIdeal.Hand
-- ==== Proof.ValueRun.lean ====
/-
  The run of the kernel: from what each grid point leaves in the buffers to what the three results hold at the end.
-/
module

public import proofs.«01_k».proof.Proof.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-! ## The run -/

/-- The body's obligation at every point. -/
theorem body_obligation (c : Dev nD) : BodyObligationLoose (vdats m 0 c) (defs₀ (F := Ideal)) Variants.none () Set.univ := by
  intro t
  rw [bigSep_W0, bigSep_W0]
  rw [show (vdats m 0 c).owesAt () t.succ = (vdats m 0 c).owesAt () t.castSucc from rfl]
  exact body_value m c t ((vdats m 0 c).owesAt () t.castSucc)

set_option backward.isDefEq.respectTransparency.types false in
/-- The run: every array of the launch ends at what the proof data say. -/
theorem run_value : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around_track cfgs (vdats m) 0 launch0 defs₀ Variants.none m ρ main
    (hbody := fun c => body_obligation m c)
    (hshare := fun c => (vdats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      unfold Pipeline.ΦA
      rw [scopedRest0_eq]
      show _ ⊢ PhiV m c 0
      unfold PhiV
      iintro ⟨⟨⟨%f8, Q8⟩, ⟨%f9, Q9⟩, ⟨%f10, Q10⟩, ⟨%f11, Q11⟩, ⟨%f12, Q12⟩⟩, HR⟩
      iexists f8, f9, f10, f11, f12
      isplitl [Q8]; · iexact Q8
      isplitl [Q9]; · iexact Q9
      isplitl [Q10]; · iexact Q10
      isplitl [Q11]; · iexact Q11
      isplitl [Q12]; · iexact Q12
      isplitr
      · ipureintro; exact ⟨fun h => absurd h (lt_irrefl 0), fun h => absurd h (lt_irrefl 0)⟩
      iexact HR)
    (hout := fun c => by
      unfold Pipeline.ΦA
      rw [scopedRest0_eq]
      show PhiV m c _ ⊢ _
      unfold PhiV
      iintro ⟨%f8, %f9, %f10, %f11, %f12, Q8, Q9, Q10, Q11, Q12, -, HR⟩
      isplitr [HR]
      · isplitl [Q8]; · iexists _; iexact Q8
        isplitl [Q9]; · iexists _; iexact Q9
        isplitl [Q10]; · iexists _; iexact Q10
        isplitl [Q11]; · iexists _; iexact Q11
        iexists _; iexact Q12
      · iexact HR)
    (Q' := Pipeline.FramePost cfgs (vdats m) 0 (Pipeline.afterTail₀ cfgs (vdats m) 0 (V0 m) [hostOps1]))
    (hQ' := fun _ h => h.1)

/-- The last point. -/
def tLast : Fin cfg0.N := ⟨31, by decide +kernel⟩

theorem final_4 : (vdats m 0 c).arrAt 4 cfg0.N = lossV m c :=
  Dat.arrAt_eq_of_after_last (vdats m 0 c) 4 tLast (by decide +kernel) _ fun j => by
    blk_simp
    rfl

theorem final_5 : (vdats m 0 c).arrAt 5 cfg0.N = codesV (aX m c) :=
  Dat.arrAt_eq_of_after_last (vdats m 0 c) 5 tLast (by decide +kernel) _ fun j => by
    blk_simp
    rfl

theorem final_6 : (vdats m 0 c).arrAt 6 cfg0.N = scaleV (aX m c) :=
  Dat.arrAt_eq_of_after_last (vdats m 0 c) 6 tLast (by decide +kernel) _ fun j => by
    blk_simp
    rfl

/-- The losses, in the shape returned. -/
def lossR : Vec Ideal S2x256 .f32 := shapeCast S2x256 (lossV m c) (by decide)

theorem lossR_at (b : Fin 2) (s : Fin 256) : lossR m c (ix2 b s) = lossV m c (ix2 0 ⟨b.val * 256 + s.val, by omega⟩) := by
  unfold lossR
  generalize lossV m c = z
  pointwise

/-- What the kernel computes, at its three results. -/
theorem value : θ_run defs (onTc (τ := τ) (main (F := Ideal))) (s₀ m ρ) (fun r => ∀ c : Dev nD,
    r.2.mem ((c.tc : Thread nD τ).loc main_v2) = lossR m c
    ∧ r.2.mem ((c.tc : Thread nD τ).loc main_v1_1) = codesV (aX m c)
    ∧ r.2.mem ((c.tc : Thread nD τ).loc main_v1_2) = scaleV (aX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨by
      refine ((h c).2 main_v2 (Pipeline.mem_restRefs_of main_v2 (by decide) (by decide))).trans ?_
      unfold Pipeline.afterTail₀
      refine congrArg (fun z : Vec Ideal S1x512 .f32 => (shapeCast S2x256 z (by decide) : Vec Ideal S2x256 .f32)) ?_
      exact (Pipeline.withArrays_arr spec0 (by decide +kernel) c (V0 m c) (fun w => (vdats m 0 c).arrAt w cfg0.N) 4).trans (final_4 m c),
    ((h c).1 5).trans (final_5 m c), ((h c).1 6).trans (final_6 m c),
    ((h c).1 0).trans (((vdats m 0 c).arrAt_in 0 rfl _).trans (V_main_arg0 m c)),
    ((h c).1 1).trans (((vdats m 0 c).arrAt_in 1 rfl _).trans (V_main_arg1 m c)),
    ((h c).1 2).trans (((vdats m 0 c).arrAt_in 2 rfl _).trans (V_main_arg2 m c)),
    ((h c).2 main_arg3 (Pipeline.mem_restRefs_of main_arg3 (by decide) (by decide))).trans (W_main_arg3 m (vdats m) c)⟩) (run_value m ρ)

end Cert.KernelIdeal.Hand

end
-- ==== Proof.RefLoss.lean ====
/-
  The reference's loss: what its printed values are, chunk by chunk of vocabulary rows, at one entry.
-/
module

public import proofs.«01_k».proof.Proof.Gen.ReferenceIdeal.Frame
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-! ## A chunk of 4096 vocabulary rows -/

/-- The weights of a chunk, times their block scales. -/
def dq4 (W : Vec Ideal S4096x8192 .fp8e4m3) (S : Vec Ideal S32x64 .f32) : FVec Ideal S4096x8192 .bf16 :=
  shapeCast S4096x8192 (mulf (extf .bf16 (shapeCast S32x128x8192 W shapeCasts_S4096x8192_S32x128x8192) bitsLt_fp8e4m3_bf16)
    (broadcastTo S32x128x8192 (shapeCast S32x1x8192 (shapeCast S32x8192 (broadcastTo S32x64x128 (shapeCast S32x64x1 (truncf .bf16 S bitsLt_bf16_f32) shapeCasts_S32x64_S32x64x1) broadcasts_S32x64x1_S32x64x128) shapeCasts_S32x64x128_S32x8192) shapeCasts_S32x8192_S32x1x8192) broadcasts_S32x1x8192_S32x128x8192)) shapeCasts_S32x128x8192_S4096x8192

theorem dq4_at (W : Vec Ideal S4096x8192 .fp8e4m3) (S : Vec Ideal S32x64 .f32) (r : Fin 4096) (k : Fin 8192) :
    dq4 W S (ix2 r k) = W (ix2 r k) * S (ix2 ⟨r.val / 128, by omega⟩ ⟨k.val / 128, by omega⟩) := by
  pointwise [dq4]

/-- The logits of a chunk. -/
def lg4 (X : FVec Ideal S512x8192 .bf16) (D : FVec Ideal S4096x8192 .bf16) : FVec Ideal S512x4096 .f32 :=
  matmul dot_S512x8192_S4096x8192_S512x4096_1_1_0_0_n_n none X D (constant S512x4096 .f32 0x00000000#32)

theorem lg4_at (X : FVec Ideal S512x8192 .bf16) (D : FVec Ideal S4096x8192 .bf16) (j : Fin 512) (r : Fin 4096) :
    lg4 X D (ix2 j r) = ∑ k : Fin 8192, X (ix2 j k) * D (ix2 r k) := by
  pointwise [lg4]

/-- The largest logit of each token. -/
def mx4 (L : FVec Ideal S512x4096 .f32) : FVec Ideal S512 .f32 :=
  multiReduction .maximumf [1] S512 L 0xFF800000#32 reduces_S512x4096_S512 (.inl rfl) rfl

theorem mx4_at (L : FVec Ideal S512x4096 .f32) (j : Fin 512) :
    mx4 L (ix1 j) = Finset.univ.fold max (Ideal.ofBits FTy.f32 0xFF800000#32) fun r : Fin 4096 => L (ix2 j r) := by
  pointwise [mx4]

/-- The exponentials' sum, relative to a given value per token. -/
def sm4 (L : FVec Ideal S512x4096 .f32) (M : FVec Ideal S512 .f32) : FVec Ideal S512 .f32 :=
  multiReduction .add [1] S512 (exp (subf L (broadcastTo S512x4096 (shapeCast S512x1 M shapeCasts_S512_S512x1) broadcasts_S512x1_S512x4096))) 0x00000000#32 reduces_S512x4096_S512 (.inl rfl) rfl

theorem sm4_at (L : FVec Ideal S512x4096 .f32) (M : FVec Ideal S512 .f32) (j : Fin 512) :
    sm4 L M (ix1 j) = ∑ r : Fin 4096, Ideal.exp (L (ix2 j r) - M (ix1 j)) := by
  pointwise [sm4]

/-- The logit at the label, if it is in the chunk starting at `o`. -/
def lb4 (L : FVec Ideal S512x4096 .f32) (lab : IVec S512 32) (o : BitVec 32) : FVec Ideal S512 .f32 :=
  multiReduction .add [1] S512 (select (cmpi .eq (addi (iota .tc S512x4096 32 [1] iota_S512x4096_d1_w32) (broadcast S512x4096 o)) (broadcastTo S512x4096 (shapeCast S512x1 lab shapeCasts_S512_S512x1) broadcasts_S512x1_S512x4096)) L (broadcast S512x4096 (Scalar.ofBits .f32 0x00000000#32))) 0x00000000#32 reduces_S512x4096_S512 (.inl rfl) rfl

theorem lb4_at (L : FVec Ideal S512x4096 .f32) (lab : IVec S512 32) (o : BitVec 32) (j : Fin 512) :
    lb4 L lab o (ix1 j) = ∑ r : Fin 4096, Scalar.select (IntOp.cmpi .eq (IntOp.addi (BitVec.ofNat 32 r.val) o) (lab (ix1 j))) (L (ix2 j r)) 0 := by
  pointwise [lb4]

/-! ## The chunk of 3968 rows -/

/-- The weights of the chunk, times their block scales. -/
def dq3 (W : Vec Ideal S3968x8192 .fp8e4m3) (S : Vec Ideal S31x64 .f32) : FVec Ideal S3968x8192 .bf16 :=
  shapeCast S3968x8192 (mulf (extf .bf16 (shapeCast S31x128x8192 W shapeCasts_S3968x8192_S31x128x8192) bitsLt_fp8e4m3_bf16)
    (broadcastTo S31x128x8192 (shapeCast S31x1x8192 (shapeCast S31x8192 (broadcastTo S31x64x128 (shapeCast S31x64x1 (truncf .bf16 S bitsLt_bf16_f32) shapeCasts_S31x64_S31x64x1) broadcasts_S31x64x1_S31x64x128) shapeCasts_S31x64x128_S31x8192) shapeCasts_S31x8192_S31x1x8192) broadcasts_S31x1x8192_S31x128x8192)) shapeCasts_S31x128x8192_S3968x8192

theorem dq3_at (W : Vec Ideal S3968x8192 .fp8e4m3) (S : Vec Ideal S31x64 .f32) (r : Fin 3968) (k : Fin 8192) :
    dq3 W S (ix2 r k) = W (ix2 r k) * S (ix2 ⟨r.val / 128, by omega⟩ ⟨k.val / 128, by omega⟩) := by
  pointwise [dq3]

/-- Its logits. -/
def lg3 (X : FVec Ideal S512x8192 .bf16) (D : FVec Ideal S3968x8192 .bf16) : FVec Ideal S512x3968 .f32 :=
  matmul dot_S512x8192_S3968x8192_S512x3968_1_1_0_0_n_n none X D (constant S512x3968 .f32 0x00000000#32)

theorem lg3_at (X : FVec Ideal S512x8192 .bf16) (D : FVec Ideal S3968x8192 .bf16) (j : Fin 512) (r : Fin 3968) :
    lg3 X D (ix2 j r) = ∑ k : Fin 8192, X (ix2 j k) * D (ix2 r k) := by
  pointwise [lg3]

/-- Their largest of each token. -/
def mx3 (L : FVec Ideal S512x3968 .f32) : FVec Ideal S512 .f32 :=
  multiReduction .maximumf [1] S512 L 0xFF800000#32 reduces_S512x3968_S512 (.inl rfl) rfl

theorem mx3_at (L : FVec Ideal S512x3968 .f32) (j : Fin 512) :
    mx3 L (ix1 j) = Finset.univ.fold max (Ideal.ofBits FTy.f32 0xFF800000#32) fun r : Fin 3968 => L (ix2 j r) := by
  pointwise [mx3]

/-- The exponentials' sum. -/
def sm3 (L : FVec Ideal S512x3968 .f32) (M : FVec Ideal S512 .f32) : FVec Ideal S512 .f32 :=
  multiReduction .add [1] S512 (exp (subf L (broadcastTo S512x3968 (shapeCast S512x1 M shapeCasts_S512_S512x1) broadcasts_S512x1_S512x3968))) 0x00000000#32 reduces_S512x3968_S512 (.inl rfl) rfl

theorem sm3_at (L : FVec Ideal S512x3968 .f32) (M : FVec Ideal S512 .f32) (j : Fin 512) :
    sm3 L M (ix1 j) = ∑ r : Fin 3968, Ideal.exp (L (ix2 j r) - M (ix1 j)) := by
  pointwise [sm3]

/-- The logit at the label. -/
def lb3 (L : FVec Ideal S512x3968 .f32) (lab : IVec S512 32) (o : BitVec 32) : FVec Ideal S512 .f32 :=
  multiReduction .add [1] S512 (select (cmpi .eq (addi (iota .tc S512x3968 32 [1] iota_S512x3968_d1_w32) (broadcast S512x3968 o)) (broadcastTo S512x3968 (shapeCast S512x1 lab shapeCasts_S512_S512x1) broadcasts_S512x1_S512x3968)) L (broadcast S512x3968 (Scalar.ofBits .f32 0x00000000#32))) 0x00000000#32 reduces_S512x3968_S512 (.inl rfl) rfl

theorem lb3_at (L : FVec Ideal S512x3968 .f32) (lab : IVec S512 32) (o : BitVec 32) (j : Fin 512) :
    lb3 L lab o (ix1 j) = ∑ r : Fin 3968, Scalar.select (IntOp.cmpi .eq (IntOp.addi (BitVec.ofNat 32 r.val) o) (lab (ix1 j))) (L (ix2 j r)) 0 := by
  pointwise [lb3]

/-! ## The printed values are these -/

theorem pay9_eq (v39 : FVec Ideal S2x256x8192 .bf16) (v43 : Vec Ideal S4096x8192 .fp8e4m3) (v45 : Vec Ideal S32x64 .f32) :
    k0_pay9 (F := Ideal) v39 v43 v45 = lg4 (k0_pay7 (F := Ideal) v39) (dq4 v43 v45) := rfl
theorem pay10_eq (v39 : FVec Ideal S2x256x8192 .bf16) (v43 : Vec Ideal S4096x8192 .fp8e4m3) (v45 : Vec Ideal S32x64 .f32) :
    k0_pay10 (F := Ideal) v39 v43 v45 = mx4 (k0_pay9 (F := Ideal) v39 v43 v45) := rfl
theorem pay11_eq (v39 : FVec Ideal S2x256x8192 .bf16) (v43 : Vec Ideal S4096x8192 .fp8e4m3) (v45 : Vec Ideal S32x64 .f32) :
    k0_pay11 (F := Ideal) v39 v43 v45 = sm4 (k0_pay9 (F := Ideal) v39 v43 v45) (k0_pay10 (F := Ideal) v39 v43 v45) := rfl
theorem pay12_eq (v39 : FVec Ideal S2x256x8192 .bf16) (v41 : Vec Ideal S2x256 .i32) (v43 : Vec Ideal S4096x8192 .fp8e4m3) (v45 : Vec Ideal S32x64 .f32) :
    k0_pay12 (F := Ideal) v39 v41 v43 v45 = lb4 (k0_pay9 (F := Ideal) v39 v43 v45) (k0_pay8 (F := Ideal) v41) 0#32 := rfl
theorem pay13_eq (W : Vec Ideal S4096x8192 .fp8e4m3) (S : Vec Ideal S32x64 .f32) : k0_pay13 (F := Ideal) W S = dq4 W S := rfl
theorem pay14_eq (X : FVec Ideal S512x8192 .bf16) (D : FVec Ideal S4096x8192 .bf16) :
    k0_pay14 (F := Ideal) X D (constant S512x4096 .f32 0x00000000#32) = lg4 X D := rfl
theorem pay15_eq (X : FVec Ideal S512x8192 .bf16) (D : FVec Ideal S4096x8192 .bf16) (z) :
    k0_pay15 (F := Ideal) X D z = mx4 (k0_pay14 (F := Ideal) X D z) := rfl
theorem pay16_eq (X : FVec Ideal S512x8192 .bf16) (D : FVec Ideal S4096x8192 .bf16) (z) :
    k0_pay16 (F := Ideal) X D z = sm4 (k0_pay14 (F := Ideal) X D z) (k0_pay15 (F := Ideal) X D z) := rfl
theorem pay17_eq (X : FVec Ideal S512x8192 .bf16) (lab) (D : FVec Ideal S4096x8192 .bf16) (z) :
    k0_pay17 (F := Ideal) X lab D z = lb4 (k0_pay14 (F := Ideal) X D z) lab 4096#32 := rfl
theorem pay18_eq (X : FVec Ideal S512x8192 .bf16) (W : Vec Ideal S3968x8192 .fp8e4m3) (S : Vec Ideal S31x64 .f32) :
    k0_pay18 (F := Ideal) X W S = lg3 X (dq3 W S) := rfl
theorem pay19_eq (X : FVec Ideal S512x8192 .bf16) (W : Vec Ideal S3968x8192 .fp8e4m3) (S : Vec Ideal S31x64 .f32) :
    k0_pay19 (F := Ideal) X W S = mx3 (k0_pay18 (F := Ideal) X W S) := rfl
theorem pay20_eq (X : FVec Ideal S512x8192 .bf16) (W : Vec Ideal S3968x8192 .fp8e4m3) (S : Vec Ideal S31x64 .f32) :
    k0_pay20 (F := Ideal) X W S = sm3 (k0_pay18 (F := Ideal) X W S) (k0_pay19 (F := Ideal) X W S) := rfl
theorem pay21_eq (X : FVec Ideal S512x8192 .bf16) (lab) (W : Vec Ideal S3968x8192 .fp8e4m3) (S : Vec Ideal S31x64 .f32) :
    k0_pay21 (F := Ideal) X lab W S = lb3 (k0_pay18 (F := Ideal) X W S) lab 8192#32 := rfl
theorem pay22_eq (X : FVec Ideal S512x8192 .bf16) (W : Vec Ideal S4096x8192 .fp8e4m3) (S : Vec Ideal S32x64 .f32) :
    k0_pay22 (F := Ideal) X W S = lg4 X (dq4 W S) := rfl

/-- The logits at the labels, over the four chunks. -/
theorem pay23_at (X : FVec Ideal S512x8192 .bf16) (lab) (a b d : FVec Ideal S512 .f32) (W : Vec Ideal S4096x8192 .fp8e4m3) (S : Vec Ideal S32x64 .f32) (y : S512.Idx) :
    k0_pay23 (F := Ideal) X lab a b d W S y = a y + b y + d y + lb4 (lg4 X (dq4 W S)) lab 12160#32 y := rfl

/-- The joint maximum and the logarithm of the joint sum, from each chunk's. -/
def join4 (m1 s1 m2 s2 m3 s3 m4 s4 : EReal) : EReal :=
  max (max (max m1 m2) m3) m4 + Ideal.log (s1 * Ideal.exp (m1 - max (max (max m1 m2) m3) m4) + s2 * Ideal.exp (m2 - max (max (max m1 m2) m3) m4)
    + s3 * Ideal.exp (m3 - max (max (max m1 m2) m3) m4) + s4 * Ideal.exp (m4 - max (max (max m1 m2) m3) m4))

/-- The same, as vectors. -/
def join4V (m1 s1 m2 s2 m3 s3 m4 s4 : FVec Ideal S512 .f32) : FVec Ideal S512 .f32 :=
  addf (maximumf (maximumf (maximumf m1 m2) m3) m4) (log (addf (addf (addf (mulf s1 (exp (subf m1 (maximumf (maximumf (maximumf m1 m2) m3) m4))))
    (mulf s2 (exp (subf m2 (maximumf (maximumf (maximumf m1 m2) m3) m4))))) (mulf s3 (exp (subf m3 (maximumf (maximumf (maximumf m1 m2) m3) m4)))))
    (mulf s4 (exp (subf m4 (maximumf (maximumf (maximumf m1 m2) m3) m4))))))

theorem join4V_at (m1 s1 m2 s2 m3 s3 m4 s4 : FVec Ideal S512 .f32) (y : S512.Idx) :
    join4V m1 s1 m2 s2 m3 s3 m4 s4 y = join4 (m1 y) (s1 y) (m2 y) (s2 y) (m3 y) (s3 y) (m4 y) (s4 y) := rfl

theorem pay24_eq (X : FVec Ideal S512x8192 .bf16) (m1 s1 m2 s2 m3 s3 : FVec Ideal S512 .f32) (W : Vec Ideal S4096x8192 .fp8e4m3) (S : Vec Ideal S32x64 .f32) :
    k0_pay24 (F := Ideal) X m1 s1 m2 s2 m3 s3 W S
      = join4V m1 s1 m2 s2 m3 s3 (mx4 (k0_pay22 (F := Ideal) X W S)) (sm4 (k0_pay22 (F := Ideal) X W S) (mx4 (k0_pay22 (F := Ideal) X W S))) := rfl

theorem pay1_at (a b : FVec Ideal S512 .f32) (i : Fin 2) (s : Fin 256) :
    k0_pay1 (F := Ideal) a b (ix2 i s) = b (ix1 ⟨i.val * 256 + s.val, by omega⟩) - a (ix1 ⟨i.val * 256 + s.val, by omega⟩) - Ideal.ofBits FTy.f32 0x411B23B5#32 := by
  pointwise [k0_pay1]

theorem pay7_at (v : FVec Ideal S2x256x8192 .bf16) (j : Fin 512) (k : Fin 8192) :
    k0_pay7 (F := Ideal) v (ix2 j k) = v (ix3 ⟨j.val / 256, by omega⟩ ⟨j.val % 256, by omega⟩ k) := by
  pointwise [k0_pay7]

theorem pay8_at (v : Vec Ideal S2x256 .i32) (j : Fin 512) :
    k0_pay8 (F := Ideal) v (ix1 j) = v (ix2 ⟨j.val / 256, by omega⟩ ⟨j.val % 256, by omega⟩) := by
  pointwise [k0_pay8]

/-! ## The loaded blocks -/

theorem ld0 (x : Vec Ideal S2x256x8192 .bf16) : View.ld x r0_0 = x := View.ld_unit_zero (by decide) _ x
theorem ld2 (x : Vec Ideal S2x256 .i32) : View.ld x r0_2 = x := View.ld_unit_zero (by decide) _ x
theorem ld3_at (x : Vec Ideal S16256x8192 .fp8e4m3) (r : Fin 4096) (k : Fin 8192) : View.ld x r0_3 (ix2 r k) = x (ix2 ⟨0 + r.val, by omega⟩ k) := by
  pointwise
theorem ld5_at (x : Vec Ideal S16256x8192 .fp8e4m3) (r : Fin 4096) (k : Fin 8192) : View.ld x r0_5 (ix2 r k) = x (ix2 ⟨4096 + r.val, by omega⟩ k) := by
  pointwise
theorem ld7_at (x : Vec Ideal S16256x8192 .fp8e4m3) (r : Fin 3968) (k : Fin 8192) : View.ld x r0_7 (ix2 r k) = x (ix2 ⟨8192 + r.val, by omega⟩ k) := by
  pointwise
theorem ld9_at (x : Vec Ideal S16256x8192 .fp8e4m3) (r : Fin 4096) (k : Fin 8192) : View.ld x r0_9 (ix2 r k) = x (ix2 ⟨12160 + r.val, by omega⟩ k) := by
  pointwise
theorem ld4_at (x : Vec Ideal S127x64 .f32) (r : Fin 32) (k : Fin 64) : View.ld x r0_4 (ix2 r k) = x (ix2 ⟨0 + r.val, by omega⟩ k) := by
  pointwise
theorem ld6_at (x : Vec Ideal S127x64 .f32) (r : Fin 32) (k : Fin 64) : View.ld x r0_6 (ix2 r k) = x (ix2 ⟨32 + r.val, by omega⟩ k) := by
  pointwise
theorem ld8_at (x : Vec Ideal S127x64 .f32) (r : Fin 31) (k : Fin 64) : View.ld x r0_8 (ix2 r k) = x (ix2 ⟨64 + r.val, by omega⟩ k) := by
  pointwise
theorem ld10_at (x : Vec Ideal S127x64 .f32) (r : Fin 32) (k : Fin 64) : View.ld x r0_10 (ix2 r k) = x (ix2 ⟨95 + r.val, by omega⟩ k) := by
  pointwise

end Cert.ReferenceIdeal.Hand

end
-- ==== Proof.Chunks.lean ====
/-
  A log-sum-exp taken in four chunks of rows, each relative to its own maximum, joined at the larger maximum: the same
  maximum and the same sum as over all rows at once, padding rows at `⊥` included. No program is mentioned here.
-/
module

public import proofs.«01_k».proof.Proof.Lse

@[expose] public section

noncomputable section

namespace Cert.Lse

open Idealize.ShloMosaic

/-- The maximum of the `n` terms from `o` on. -/
def cM (f : ℕ → EReal) (o n : ℕ) : EReal := Finset.univ.fold max ⊥ fun r : Fin n => f (o + r.val)

/-- Their exponentials' sum, relative to that maximum. -/
def cS (f : ℕ → EReal) (o n : ℕ) : EReal := ∑ r : Fin n, Ideal.exp (f (o + r.val) - cM f o n)

/-- The plain sum of `n` terms from `o` on. -/
def cL (h : ℕ → EReal) (o n : ℕ) : EReal := ∑ r : Fin n, h (o + r.val)

/-- The four maxima joined. -/
def allM (f : ℕ → EReal) : EReal := max (max (max (cM f 0 4096) (cM f 4096 4096)) (cM f 8192 3968)) (cM f 12160 4096)

/-- The four sums, each moved to the joint maximum. -/
def allS (f : ℕ → EReal) : EReal :=
  cS f 0 4096 * Ideal.exp (cM f 0 4096 - allM f) + cS f 4096 4096 * Ideal.exp (cM f 4096 4096 - allM f)
    + cS f 8192 3968 * Ideal.exp (cM f 8192 3968 - allM f) + cS f 12160 4096 * Ideal.exp (cM f 12160 4096 - allM f)

/-- The four plain sums joined. -/
def allL (h : ℕ → EReal) : EReal := cL h 0 4096 + cL h 4096 4096 + cL h 8192 3968 + cL h 12160 4096

theorem cM_le (f : ℕ → EReal) (o n : ℕ) (u : EReal) : cM f o n ≤ u ↔ ∀ r : Fin n, f (o + r.val) ≤ u := by
  unfold cM
  rw [fold_max_le]
  exact ⟨fun h r => h r (Finset.mem_univ r), fun h r _ => h r⟩

theorem allM_eq (f : ℕ → EReal) (hf : ∀ r, 16256 ≤ r → f r = ⊥) : allM f = (Finset.range 16384).fold max ⊥ f := by
  refine le_antisymm ?_ ?_
  · have key : ∀ o n, o + n ≤ 16384 → cM f o n ≤ (Finset.range 16384).fold max ⊥ f := fun o n h =>
      (cM_le f o n _).mpr fun r => le_fold_max _ f (Finset.mem_range.mpr (by omega))
    exact max_le (max_le (max_le (key _ _ (by omega)) (key _ _ (by omega))) (key _ _ (by omega))) (key _ _ (by omega))
  · refine (fold_max_le _ f _).mpr fun r _ => ?_
    have key : ∀ o n, o ≤ r → r < o + n → f r ≤ cM f o n := fun o n h h' => by
      have := (cM_le f o n _).mp le_rfl ⟨r - o, by omega⟩
      rwa [show o + (r - o) = r by omega] at this
    unfold allM
    by_cases h1 : r < 4096
    · exact (key 0 4096 (by omega) (by omega)).trans ((le_max_left _ _).trans ((le_max_left _ _).trans (le_max_left _ _)))
    by_cases h2 : r < 8192
    · exact (key 4096 4096 (by omega) (by omega)).trans ((le_max_right _ _).trans ((le_max_left _ _).trans (le_max_left _ _)))
    by_cases h3 : r < 12160
    · exact (key 8192 3968 (by omega) (by omega)).trans ((le_max_right _ _).trans (le_max_left _ _))
    by_cases h4 : r < 16256
    · exact (key 12160 4096 (by omega) (by omega)).trans (le_max_right _ _)
    · rw [hf r (by omega)]; exact bot_le

/-- Four consecutive chunks and 128 vanishing terms make one sum of 16384. -/
theorem allL_eq (h : ℕ → EReal) (hh : ∀ r, 16256 ≤ r → r < 16384 → h r = 0) : allL h = ∑ r ∈ Finset.range 16384, h r := by
  have tail : ∑ i ∈ Finset.range 128, h (16256 + i) = 0 :=
    Finset.sum_eq_zero fun i hi => hh _ (by omega) (by have := Finset.mem_range.mp hi; omega)
  unfold allL cL
  rw [Fin.sum_univ_eq_sum_range (fun i => h (0 + i)), Fin.sum_univ_eq_sum_range (fun i => h (4096 + i)),
    Fin.sum_univ_eq_sum_range (fun i => h (8192 + i)), Fin.sum_univ_eq_sum_range (fun i => h (12160 + i)),
    show (16384 : ℕ) = 16256 + 128 from rfl, Finset.sum_range_add, tail, add_zero,
    show (16256 : ℕ) = 12160 + 4096 from rfl, Finset.sum_range_add, show (12160 : ℕ) = 8192 + 3968 from rfl, Finset.sum_range_add,
    show (8192 : ℕ) = 4096 + 4096 from rfl, Finset.sum_range_add]
  simp only [Nat.zero_add]

theorem cS_move (f : ℕ → EReal) (o n : ℕ) {q : EReal} (h : cM f o n ≤ q) :
    cS f o n * Ideal.exp (cM f o n - q) = cL (fun r => Ideal.exp (f r - q)) o n :=
  rescale Finset.univ (fun r : Fin n => f (o + r.val)) (fun r _ => (cM_le f o n _).mp le_rfl r) h

theorem allS_eq (f : ℕ → EReal) (hf : ∀ r, 16256 ≤ r → f r = ⊥) :
    allS f = ∑ r ∈ Finset.range 16384, Ideal.exp (f r - allM f) := by
  rw [← allL_eq (fun r => Ideal.exp (f r - allM f)) fun r h _ => by simp only [hf r h, EReal.bot_sub, Ideal.exp_bot]]
  unfold allS allL
  rw [cS_move f 0 4096 (q := allM f) ((le_max_left _ _).trans ((le_max_left _ _).trans (le_max_left _ _))),
    cS_move f 4096 4096 (q := allM f) ((le_max_right _ _).trans ((le_max_left _ _).trans (le_max_left _ _))),
    cS_move f 8192 3968 (q := allM f) ((le_max_right _ _).trans (le_max_left _ _)),
    cS_move f 12160 4096 (q := allM f) (le_max_right _ _)]

end Cert.Lse

end
-- ==== Proof.RefWhole.lean ====
/-
  The reference's loss, whole: its four chunks of vocabulary rows as the four chunks of `Lse`, joined.
-/
module

public import proofs.«01_k».proof.Proof.RefLoss
public import proofs.«01_k».proof.Proof.Chunks
public import proofs.«01_k».proof.Proof.Step

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (ofBits_ninf select_ite cmpi_eq_ite)
open Cert.Lse

/-- The logit of vocabulary row `r` for token `j`; `⊥` past the vocabulary's end. -/
def rF (X : FVec Ideal S512x8192 .bf16) (W : Vec Ideal S16256x8192 .fp8e4m3) (S : Vec Ideal S127x64 .f32) (j : Fin 512) (r : ℕ) : EReal :=
  if h : r < 16256 then ∑ k : Fin 8192, X (ix2 j k) * (W (ix2 ⟨r, h⟩ k) * S (ix2 ⟨r / 128, by omega⟩ ⟨k.val / 128, by omega⟩)) else ⊥

/-- A function of the rows at the label's row, nothing elsewhere. -/
def atLab (lab : BitVec 32) (f : ℕ → EReal) (r : ℕ) : EReal := if BitVec.ofNat 32 r = lab then f r else 0

/-- The number of row `r` of the chunk starting at `o`. -/
theorem chunk_word (o r : ℕ) : IntOp.addi (BitVec.ofNat 32 r) (BitVec.ofNat 32 o) = BitVec.ofNat 32 (o + r) := by
  rw [Nat.add_comm]
  exact (BitVec.ofNat_add r o).symm

/-! ## One chunk -/

theorem mx4_chunk (L : FVec Ideal S512x4096 .f32) (f : ℕ → EReal) (o : ℕ) (j : Fin 512) (h : ∀ r : Fin 4096, L (ix2 j r) = f (o + r.val)) :
    mx4 L (ix1 j) = cM f o 4096 := by
  rw [mx4_at, ofBits_ninf]
  unfold cM
  exact congrArg (fun g : Fin 4096 → EReal => Finset.univ.fold max ⊥ g) (funext h)

theorem sm4_chunk (L : FVec Ideal S512x4096 .f32) (f : ℕ → EReal) (o : ℕ) (j : Fin 512) (h : ∀ r : Fin 4096, L (ix2 j r) = f (o + r.val)) :
    sm4 L (mx4 L) (ix1 j) = cS f o 4096 := by
  rw [sm4_at, mx4_chunk L f o j h]
  unfold cS
  exact Finset.sum_congr rfl fun r _ => by rw [h r]

theorem lb4_chunk (L : FVec Ideal S512x4096 .f32) (f : ℕ → EReal) (lab : IVec S512 32) (o : ℕ) (j : Fin 512) (h : ∀ r : Fin 4096, L (ix2 j r) = f (o + r.val)) :
    lb4 L lab (BitVec.ofNat 32 o) (ix1 j) = cL (atLab (lab (ix1 j)) f) o 4096 := by
  rw [lb4_at]
  unfold cL
  exact Finset.sum_congr rfl fun r _ => by rw [chunk_word, cmpi_eq_ite, select_ite, h r]; rfl

theorem mx3_chunk (L : FVec Ideal S512x3968 .f32) (f : ℕ → EReal) (o : ℕ) (j : Fin 512) (h : ∀ r : Fin 3968, L (ix2 j r) = f (o + r.val)) :
    mx3 L (ix1 j) = cM f o 3968 := by
  rw [mx3_at, ofBits_ninf]
  unfold cM
  exact congrArg (fun g : Fin 3968 → EReal => Finset.univ.fold max ⊥ g) (funext h)

theorem sm3_chunk (L : FVec Ideal S512x3968 .f32) (f : ℕ → EReal) (o : ℕ) (j : Fin 512) (h : ∀ r : Fin 3968, L (ix2 j r) = f (o + r.val)) :
    sm3 L (mx3 L) (ix1 j) = cS f o 3968 := by
  rw [sm3_at, mx3_chunk L f o j h]
  unfold cS
  exact Finset.sum_congr rfl fun r _ => by rw [h r]

theorem lb3_chunk (L : FVec Ideal S512x3968 .f32) (f : ℕ → EReal) (lab : IVec S512 32) (o : ℕ) (j : Fin 512) (h : ∀ r : Fin 3968, L (ix2 j r) = f (o + r.val)) :
    lb3 L lab (BitVec.ofNat 32 o) (ix1 j) = cL (atLab (lab (ix1 j)) f) o 3968 := by
  rw [lb3_at]
  unfold cL
  exact Finset.sum_congr rfl fun r _ => by rw [chunk_word, cmpi_eq_ite, select_ite, h r]; rfl

/-! ## The logits of each chunk -/

/-- A chunk's logits are those of its rows, its weights and scales being the rows from `o` and the blocks from `o / 128` on. -/
theorem rF_chunk (X : FVec Ideal S512x8192 .bf16) (W : Vec Ideal S16256x8192 .fp8e4m3) (S : Vec Ideal S127x64 .f32) (j : Fin 512)
    (o q n r : ℕ) (ho : o = q * 128) (hr : r < n) (hn : o + n ≤ 16256) (D : Fin 8192 → EReal)
    (hD : ∀ k : Fin 8192, D k = W (ix2 ⟨o + r, by omega⟩ k) * S (ix2 ⟨q + r / 128, by omega⟩ ⟨k.val / 128, by omega⟩)) :
    ∑ k : Fin 8192, X (ix2 j k) * D k = rF X W S j (o + r) := by
  unfold rF
  rw [dif_pos (by omega : o + r < 16256)]
  refine Finset.sum_congr rfl fun k _ => ?_
  rw [hD k]
  have e : (⟨q + r / 128, by omega⟩ : Fin 127) = ⟨(o + r) / 128, by omega⟩ := Fin.ext (by show q + r / 128 = (o + r) / 128; omega)
  rw [e]

section
variable (X : FVec Ideal S512x8192 .bf16) (W : Vec Ideal S16256x8192 .fp8e4m3) (S : Vec Ideal S127x64 .f32) (j : Fin 512)

theorem chunk0 (r : Fin 4096) : lg4 X (dq4 (View.ld W r0_3) (View.ld S r0_4)) (ix2 j r) = rF X W S j (0 + r.val) :=
  (lg4_at _ _ j r).trans (rF_chunk X W S j 0 0 4096 r.val rfl r.isLt (by omega) _ fun k => by rw [dq4_at, ld3_at, ld4_at])

theorem chunk1 (r : Fin 4096) : lg4 X (dq4 (View.ld W r0_5) (View.ld S r0_6)) (ix2 j r) = rF X W S j (4096 + r.val) :=
  (lg4_at _ _ j r).trans (rF_chunk X W S j 4096 32 4096 r.val rfl r.isLt (by omega) _ fun k => by rw [dq4_at, ld5_at, ld6_at])

theorem chunk2 (r : Fin 3968) : lg3 X (dq3 (View.ld W r0_7) (View.ld S r0_8)) (ix2 j r) = rF X W S j (8192 + r.val) :=
  (lg3_at _ _ j r).trans (rF_chunk X W S j 8192 64 3968 r.val rfl r.isLt (by omega) _ fun k => by rw [dq3_at, ld7_at, ld8_at])

theorem chunk3 (r : Fin 4096) : lg4 X (dq4 (View.ld W r0_9) (View.ld S r0_10)) (ix2 j r) = rF X W S j (12160 + r.val) :=
  (lg4_at _ _ j r).trans (rF_chunk X W S j 12160 95 4096 r.val rfl r.isLt (by omega) _ fun k => by rw [dq4_at, ld9_at, ld10_at])

end

/-! ## The loss -/

section
variable (x0 : Vec Ideal S2x256x8192 .bf16) (x1 : Vec Ideal S16256x8192 .fp8e4m3) (x2 : Vec Ideal S127x64 .f32) (x3 : Vec Ideal S2x256 .i32)

/-- The dequantised tokens, as rows. -/
def xwR : FVec Ideal S512x8192 .bf16 := k0_pay7 (F := Ideal) (k0_pay6 (F := Ideal) x0)

/-- The labels, as one row. -/
def labR : IVec S512 32 := k0_pay8 (F := Ideal) x3

/-- The sum of the logits at the labels. -/
def lossL : FVec Ideal S512 .f32 :=
  k0_pay23 (F := Ideal) (k0_pay27 (F := Ideal) x0 x1 x2 x3) (k0_pay28 (F := Ideal) x0 x1 x2 x3) (k0_pay12 (F := Ideal) (k0_pay25 (F := Ideal) x0 x1 x2 x3) (View.ld x3 r0_2) (View.ld x1 r0_3) (View.ld x2 r0_4)) (k0_pay17 (F := Ideal) (k0_pay27 (F := Ideal) x0 x1 x2 x3) (k0_pay28 (F := Ideal) x0 x1 x2 x3) (k0_pay29 (F := Ideal) x0 x1 x2 x3) (k0_pay26 (F := Ideal) x0 x1 x2 x3)) (k0_pay21 (F := Ideal) (k0_pay27 (F := Ideal) x0 x1 x2 x3) (k0_pay28 (F := Ideal) x0 x1 x2 x3) (View.ld x1 r0_7) (View.ld x2 r0_8)) (View.ld x1 r0_9) (View.ld x2 r0_10)

/-- The logarithm of the sum of exponentials. -/
def lossZ : FVec Ideal S512 .f32 :=
  k0_pay24 (F := Ideal) (k0_pay27 (F := Ideal) x0 x1 x2 x3) (k0_pay10 (F := Ideal) (k0_pay25 (F := Ideal) x0 x1 x2 x3) (View.ld x1 r0_3) (View.ld x2 r0_4)) (k0_pay11 (F := Ideal) (k0_pay25 (F := Ideal) x0 x1 x2 x3) (View.ld x1 r0_3) (View.ld x2 r0_4)) (k0_pay15 (F := Ideal) (k0_pay27 (F := Ideal) x0 x1 x2 x3) (k0_pay29 (F := Ideal) x0 x1 x2 x3) (k0_pay26 (F := Ideal) x0 x1 x2 x3)) (k0_pay16 (F := Ideal) (k0_pay27 (F := Ideal) x0 x1 x2 x3) (k0_pay29 (F := Ideal) x0 x1 x2 x3) (k0_pay26 (F := Ideal) x0 x1 x2 x3)) (k0_pay19 (F := Ideal) (k0_pay27 (F := Ideal) x0 x1 x2 x3) (View.ld x1 r0_7) (View.ld x2 r0_8)) (k0_pay20 (F := Ideal) (k0_pay27 (F := Ideal) x0 x1 x2 x3) (View.ld x1 r0_7) (View.ld x2 r0_8)) (View.ld x1 r0_9) (View.ld x2 r0_10)

theorem out4_eq : out0_4 (F := Ideal) x0 x1 x2 x3 = k0_pay1 (F := Ideal) (lossL x0 x1 x2 x3) (lossZ x0 x1 x2 x3) :=
  View.canon_cons_unit_zero (by decide) _ _ _

theorem out5_eq : out0_5 (F := Ideal) x0 x1 x2 x3 = k0_pay4 (F := Ideal) x0 :=
  (View.canon_cons_unit_zero (by decide) _ _ _).trans (congrArg (k0_pay4 (F := Ideal)) (ld0 x0))

theorem out6_eq : out0_6 (F := Ideal) x0 x1 x2 x3 = k0_pay5 (F := Ideal) x0 :=
  (View.canon_cons_unit_zero (by decide) _ _ _).trans (congrArg (k0_pay5 (F := Ideal)) (ld0 x0))

theorem pay25_eq : k0_pay25 (F := Ideal) x0 x1 x2 x3 = k0_pay6 (F := Ideal) x0 := by unfold k0_pay25; rw [ld0]
theorem pay27_eq : k0_pay27 (F := Ideal) x0 x1 x2 x3 = xwR x0 := by unfold k0_pay27 xwR; rw [pay25_eq]
theorem pay28_eq : k0_pay28 (F := Ideal) x0 x1 x2 x3 = labR x3 := by unfold k0_pay28 labR; rw [ld2]

theorem lossL_at (j : Fin 512) : lossL x0 x1 x2 x3 (ix1 j) = allL (atLab (labR x3 (ix1 j)) (rF (xwR x0) x1 x2 j)) := by
  unfold lossL k0_pay26 k0_pay29
  rw [pay23_at, pay12_eq, pay17_eq, pay21_eq, pay9_eq, pay13_eq, pay14_eq, pay18_eq, pay25_eq, pay27_eq, pay28_eq, ld2]
  unfold allL
  rw [← lb4_chunk _ _ (labR x3) 0 j (chunk0 (xwR x0) x1 x2 j), ← lb4_chunk _ _ (labR x3) 4096 j (chunk1 (xwR x0) x1 x2 j),
    ← lb3_chunk _ _ (labR x3) 8192 j (chunk2 (xwR x0) x1 x2 j), ← lb4_chunk _ _ (labR x3) 12160 j (chunk3 (xwR x0) x1 x2 j)]
  rfl

theorem lossZ_at (j : Fin 512) : lossZ x0 x1 x2 x3 (ix1 j)
    = allM (rF (xwR x0) x1 x2 j) + Ideal.log (allS (rF (xwR x0) x1 x2 j)) := by
  unfold lossZ k0_pay26 k0_pay29
  rw [pay24_eq, join4V_at, pay11_eq, pay10_eq, pay16_eq, pay15_eq, pay20_eq, pay19_eq, pay22_eq, pay9_eq, pay13_eq, pay14_eq, pay18_eq, pay25_eq, pay27_eq]
  unfold allS allM
  rw [← mx4_chunk _ _ 0 j (chunk0 (xwR x0) x1 x2 j), ← mx4_chunk _ _ 4096 j (chunk1 (xwR x0) x1 x2 j),
    ← mx3_chunk _ _ 8192 j (chunk2 (xwR x0) x1 x2 j), ← mx4_chunk _ _ 12160 j (chunk3 (xwR x0) x1 x2 j),
    ← sm4_chunk _ _ 0 j (chunk0 (xwR x0) x1 x2 j), ← sm4_chunk _ _ 4096 j (chunk1 (xwR x0) x1 x2 j),
    ← sm3_chunk _ _ 8192 j (chunk2 (xwR x0) x1 x2 j), ← sm4_chunk _ _ 12160 j (chunk3 (xwR x0) x1 x2 j)]
  rfl

/-- The reference's loss at one entry. -/
theorem out4_at (b : Fin 2) (s : Fin 256) (j : Fin 512) (hj : j.val = b.val * 256 + s.val) : out0_4 (F := Ideal) x0 x1 x2 x3 (ix2 b s)
    = allM (rF (xwR x0) x1 x2 j) + Ideal.log (allS (rF (xwR x0) x1 x2 j)) - allL (atLab (labR x3 (ix1 j)) (rF (xwR x0) x1 x2 j))
      - Ideal.ofBits FTy.f32 0x411B23B5#32 := by
  have e : j = ⟨b.val * 256 + s.val, by omega⟩ := Fin.ext hj
  rw [out4_eq, pay1_at, ← e, lossL_at, lossZ_at]

end

end Cert.ReferenceIdeal.Hand

end
-- ==== Proof.RefRun.lean ====
/-
  The run of the reference: its three results, from its arguments.
-/
module

public import proofs.«01_k».proof.Proof.RefWhole

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

theorem idx0 : ∀ a, win0_0.index t0_0 a = 0 := by decide +kernel
theorem idx1 : ∀ a, win0_1.index t0_0 a = 0 := by decide +kernel
theorem idx2 : ∀ a, win0_2.index t0_0 a = 0 := by decide +kernel
theorem idx3 : ∀ a, win0_3.index t0_0 a = 0 := by decide +kernel

theorem iblk0_arg : iblk m c 0 t0_0 = m ((c.tc : Thread nD τ).loc main_arg0) := by
  funext y
  blk_simp [iblk]
  refine congrArg (V m c main_arg0) ?_
  blk_ext [idx0]

theorem iblk1_arg : iblk m c 1 t0_0 = m ((c.tc : Thread nD τ).loc main_arg1) := by
  funext y
  blk_simp [iblk]
  refine congrArg (V m c main_arg1) ?_
  blk_ext [idx1]

theorem iblk2_arg : iblk m c 2 t0_0 = m ((c.tc : Thread nD τ).loc main_arg2) := by
  funext y
  blk_simp [iblk]
  refine congrArg (V m c main_arg2) ?_
  blk_ext [idx2]

theorem iblk3_arg : iblk m c 3 t0_0 = m ((c.tc : Thread nD τ).loc main_arg3) := by
  funext y
  blk_simp [iblk]
  refine congrArg (V m c main_arg3) ?_
  blk_ext [idx3]

/-- The losses of the reference. -/
abbrev rLoss : Vec Ideal S2x256 .f32 := out0_4 (F := Ideal) (m ((c.tc : Thread nD τ).loc main_arg0)) (m ((c.tc : Thread nD τ).loc main_arg1)) (m ((c.tc : Thread nD τ).loc main_arg2)) (m ((c.tc : Thread nD τ).loc main_arg3))

theorem final_4_of (G : Vec Ideal S2x256 .f32) (h : (dats m 0 c).after 4 t0_0 = G) : (dats m 0 c).arrAt 4 cfg0.N = G :=
  Dat.arrAt_eq_of_after_last (dats m 0 c) 4 t0_0 (by decide +kernel) _ fun j => by
    rw [h]
    blk_simp

theorem final_5_of (G : Vec Ideal S2x256x8192 .fp8e4m3) (h : (dats m 0 c).after 5 t0_0 = G) : (dats m 0 c).arrAt 5 cfg0.N = G :=
  Dat.arrAt_eq_of_after_last (dats m 0 c) 5 t0_0 (by decide +kernel) _ fun j => by
    rw [h]
    blk_simp

theorem final_6_of (G : Vec Ideal S2x256x64 .f32) (h : (dats m 0 c).after 6 t0_0 = G) : (dats m 0 c).arrAt 6 cfg0.N = G :=
  Dat.arrAt_eq_of_after_last (dats m 0 c) 6 t0_0 (by decide +kernel) _ fun j => by
    rw [h]
    blk_simp

theorem final_4 : (dats m 0 c).arrAt 4 cfg0.N = rLoss m c :=
  final_4_of m c _ (by rw [after0_4, iblk0_arg, iblk1_arg, iblk2_arg, iblk3_arg])

theorem final_5 : (dats m 0 c).arrAt 5 cfg0.N = k0_pay4 (F := Ideal) (m ((c.tc : Thread nD τ).loc main_arg0)) :=
  final_5_of m c _ (by rw [after0_5, out5_eq, iblk0_arg])

theorem final_6 : (dats m 0 c).arrAt 6 cfg0.N = k0_pay5 (F := Ideal) (m ((c.tc : Thread nD τ).loc main_arg0)) :=
  final_6_of m c _ (by rw [after0_6, out6_eq, iblk0_arg])

/-- What the reference computes, at its three results. -/
theorem value : θ_run defs (onTc (τ := τ) (main (F := Ideal))) (s₀ m ρ) (fun r => ∀ c : Dev nD,
    r.2.mem ((c.tc : Thread nD τ).loc main_v0_0) = rLoss m c
    ∧ r.2.mem ((c.tc : Thread nD τ).loc main_v0_1) = k0_pay4 (F := Ideal) (m ((c.tc : Thread nD τ).loc main_arg0))
    ∧ r.2.mem ((c.tc : Thread nD τ).loc main_v0_2) = k0_pay5 (F := Ideal) (m ((c.tc : Thread nD τ).loc main_arg0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h.1 c).1 4).trans (final_4 m c), ((h.1 c).1 5).trans (final_5 m c), ((h.1 c).1 6).trans (final_6 m c), h.2 c⟩)
    (θ_run_and (run_main m ρ) (unchanged m ρ))

end Cert.ReferenceIdeal.Hand

end
-- ==== Proof.RefQuant.lean ====
/-
  The quantiser of the reference, entry by entry: the exponent of each block of 128 entries, the codes, the scales.
-/
module

public import proofs.«01_k».proof.Proof.Gen.ReferenceIdeal.Frame
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- The exponent of a block, from its largest magnitude. -/
def eref (a : EReal) : EReal :=
  if a = 0 then 0 else
    Ideal.liftRound Int.floor (Ideal.div (Ideal.log (a * Ideal.ofBits .f32 0x3B124925#32)) (Ideal.log (Ideal.ofBits .f32 0x40000000#32))) + 1

/-- The exponents of all blocks. -/
def e3 (v4 : FVec Ideal S2x256x64 .f32) : FVec Ideal S2x256x64x1 .f32 :=
  have v5 : FVec Ideal S2x256x64x1 .f32 := shapeCast S2x256x64x1 v4 shapeCasts_S2x256x64_S2x256x64x1
  select (cmpf .oeq v5 (broadcast S2x256x64x1 (Scalar.ofBits .f32 0x00000000#32))) (broadcast S2x256x64x1 (Scalar.ofBits .f32 0x00000000#32))
    (addf (floor (divf (log (mulf v5 (broadcast S2x256x64x1 (Scalar.ofBits .f32 0x3B124925#32)))) (log (broadcast S2x256x64x1 (Scalar.ofBits .f32 0x40000000#32)))))
      (broadcast S2x256x64x1 (Scalar.ofBits .f32 0x3F800000#32)))

theorem e3_at (v4 : FVec Ideal S2x256x64 .f32) (b : Fin 2) (s : Fin 256) (g : Fin 64) :
    e3 v4 (ix4 b s g 0) = eref (v4 (ix3 b s g)) := by
  pointwise [e3, eref]

/-- The blocks' largest magnitudes. -/
def a4 (v2 : FVec Ideal S2x256x64x128 .f32) : FVec Ideal S2x256x64 .f32 :=
  multiReduction .maximumf [3] S2x256x64 (absf v2) 0xFF800000#32 reduces_S2x256x64x128_S2x256x64 (.inl rfl) rfl

theorem a4_at (v2 : FVec Ideal S2x256x64x128 .f32) (b : Fin 2) (s : Fin 256) (g : Fin 64) :
    a4 v2 (ix3 b s g) = Finset.univ.fold max (Ideal.ofBits FTy.f32 0xFF800000#32) fun k : Fin 128 => FloatOps.absf (F := Ideal) (φ := .f32) (v2 (ix4 b s g k)) := by
  pointwise [a4]

theorem pay2_at (x : FVec Ideal S2x256x8192 .bf16) (b : Fin 2) (s : Fin 256) (g : Fin 64) (k : Fin 128) :
    k0_pay2 (F := Ideal) x (ix4 b s g k) = x (ix3 b s ⟨g.val * 128 + k.val, by omega⟩) := by
  pointwise [k0_pay2]

theorem pay3_eq (x : FVec Ideal S2x256x8192 .bf16) : k0_pay3 (F := Ideal) x = e3 (a4 (k0_pay2 (F := Ideal) x)) := rfl

theorem pay3_at (x : FVec Ideal S2x256x8192 .bf16) (b : Fin 2) (s : Fin 256) (g : Fin 64) :
    k0_pay3 (F := Ideal) x (ix4 b s g 0) = eref (Finset.univ.fold max (Ideal.ofBits FTy.f32 0xFF800000#32) fun k : Fin 128 => FloatOps.absf (F := Ideal) (φ := .f32) (x (ix3 b s ⟨g.val * 128 + k.val, by omega⟩))) := by
  rw [pay3_eq]
  refine (e3_at _ b s g).trans (congrArg eref ?_)
  refine (a4_at _ b s g).trans ?_
  congr 1
  funext k
  exact congrArg _ (pay2_at x b s g k)

/-- The codes, in blocks. -/
def c28 (v2 : FVec Ideal S2x256x64x128 .f32) (v18 : FVec Ideal S2x256x64x1 .f32) : FVec Ideal S2x256x64x128 .fp8e4m3 :=
  truncf .fp8e4m3 (minimumf (broadcast S2x256x64x128 (Scalar.ofBits .f32 0x43E00000#32)) (maximumf (broadcast S2x256x64x128 (Scalar.ofBits .f32 0xC3E00000#32)) (mulf v2 (broadcastTo S2x256x64x128 (exp2 (subf (broadcast S2x256x64x1 (Scalar.ofBits .f32 0x00000000#32)) v18)) broadcasts_S2x256x64x1_S2x256x64x128)))) bitsLt_fp8e4m3_f32

/-- One code. -/
def codeOf (v inv : EReal) : EReal := min (Ideal.ofBits .f32 0x43E00000#32) (max (Ideal.ofBits .f32 0xC3E00000#32) (v * inv))

theorem c28_at (v2 : FVec Ideal S2x256x64x128 .f32) (v18 : FVec Ideal S2x256x64x1 .f32) (b : Fin 2) (s : Fin 256) (g : Fin 64) (k : Fin 128) :
    c28 v2 v18 (ix4 b s g k) = codeOf (v2 (ix4 b s g k)) (FloatOps.exp2 (F := Ideal) (φ := .f32) (0 - v18 (ix4 b s g 0))) := by
  pointwise [c28, codeOf]

theorem flat_at (v28 : FVec Ideal S2x256x64x128 .fp8e4m3) (b : Fin 2) (s : Fin 256) (d : Fin 8192) :
   shapeCast S2x256x8192 v28 shapeCasts_S2x256x64x128_S2x256x8192 (ix3 b s d) = v28 (ix4 b s ⟨d.val / 128, by omega⟩ ⟨d.val % 128, by omega⟩) := by
  pointwise

theorem drop_at (x : FVec Ideal S2x256x64x1 .f32) (b : Fin 2) (s : Fin 256) (g : Fin 64) :
    shapeCast S2x256x64 (exp2 x) shapeCasts_S2x256x64x1_S2x256x64 (ix3 b s g) = FloatOps.exp2 (F := Ideal) (φ := .f32) (x (ix4 b s g 0)) := by
  pointwise

theorem pay5_at (x : FVec Ideal S2x256x8192 .bf16) (b : Fin 2) (s : Fin 256) (g : Fin 64) :
    k0_pay5 (F := Ideal) x (ix3 b s g) = FloatOps.exp2 (F := Ideal) (φ := .f32) (k0_pay3 (F := Ideal) x (ix4 b s g 0)) :=
  drop_at (k0_pay3 (F := Ideal) x) b s g

theorem pay4_eq (x : FVec Ideal S2x256x8192 .bf16) : k0_pay4 (F := Ideal) x = shapeCast S2x256x8192 (c28 (k0_pay2 (F := Ideal) x) (k0_pay3 (F := Ideal) x)) shapeCasts_S2x256x64x128_S2x256x8192 := rfl

theorem pay4_at (x : FVec Ideal S2x256x8192 .bf16) (b : Fin 2) (s : Fin 256) (d : Fin 8192) :
    k0_pay4 (F := Ideal) x (ix3 b s d) = codeOf (x (ix3 b s d)) (FloatOps.exp2 (F := Ideal) (φ := .f32) (0 - k0_pay3 (F := Ideal) x (ix4 b s ⟨d.val / 128, by omega⟩ 0))) := by
  rw [pay4_eq]
  refine (flat_at _ b s d).trans ((c28_at _ _ b s _ _).trans ?_)
  have h := pay2_at x b s ⟨d.val / 128, by omega⟩ ⟨d.val % 128, by omega⟩
  rw [h]; congr 1
  exact congrArg (fun e => x (ix3 b s e)) (Fin.ext (by show d.val / 128 * 128 + d.val % 128 = d.val; omega))

/-- The scales, each repeated over its block. -/
def up (v : FVec Ideal S2x256x64 .f32) : FVec Ideal S2x256x8192 .bf16 :=
  shapeCast S2x256x8192 (broadcastTo S2x256x64x128 (shapeCast S2x256x64x1 (truncf .bf16 v bitsLt_bf16_f32) shapeCasts_S2x256x64_S2x256x64x1) broadcasts_S2x256x64x1_S2x256x64x128) shapeCasts_S2x256x64x128_S2x256x8192

theorem up_at (v : FVec Ideal S2x256x64 .f32) (b : Fin 2) (s : Fin 256) (d : Fin 8192) : up v (ix3 b s d) = v (ix3 b s ⟨d.val / 128, by omega⟩) := by
  pointwise [up]

theorem pay6_eq (x : FVec Ideal S2x256x8192 .bf16) : k0_pay6 (F := Ideal) x = mulf (extf .bf16 (k0_pay4 (F := Ideal) x) bitsLt_fp8e4m3_bf16) (up (k0_pay5 (F := Ideal) x)) := rfl

/-- The dequantised tokens. -/
theorem pay6_at (x : FVec Ideal S2x256x8192 .bf16) (b : Fin 2) (s : Fin 256) (d : Fin 8192) :
    k0_pay6 (F := Ideal) x (ix3 b s d) = k0_pay4 (F := Ideal) x (ix3 b s d) * k0_pay5 (F := Ideal) x (ix3 b s ⟨d.val / 128, by omega⟩) := by
  rw [pay6_eq, ← up_at (k0_pay5 (F := Ideal) x) b s d]
  rfl

end Cert.ReferenceIdeal.Hand

end
-- ==== Proof.PreDecode.lean ====
/-
  What the precondition says, entry by entry.
-/
module

public import proofs.«01_k».proof.Pre_pre
public import proofs.«01_k».proof.Proof.Exponent
public import proofs.«01_k».proof.Proof.Payload
public import Idealize.ShloMosaic.Lib.Pointwise
public import Idealize.ShloMosaic.Lib.Pipeline.ValueKit

@[expose] public section

set_option maxRecDepth 16384

noncomputable section

namespace Cert.Pre_pre.Hand

open Cert.Pre_pre
open Idealize.ShloMosaic Idealize.ShloMosaic.TcCoe
open Cert.KernelIdeal.Hand (amx)

/-- Its side conditions. -/
instance facts : Cert.Pre_pre.Facts where
  bitsLt_bf16_f32 := by decide
  shapeCasts_S2x256x8192_S2x256x64x128 := by decide
  reducesTo_S2x256x64x128_S2x256x64_d3 := by decide
  h_S_ := by decide
  bcast_S_S2x256x64 := by decide
  bcast_S_S2x256 := by decide

/-- The largest magnitudes, as the precondition takes them. -/
def amax (x : FVec Ideal S2x256x8192 .bf16) : FVec Ideal S2x256x64 .f32 :=
  Host.reduce FloatOps.maximumf (Host.absf (shapeCast S2x256x64x128 (extf .f32 x facts.bitsLt_bf16_f32) facts.shapeCasts_S2x256x8192_S2x256x64x128))
    (constant S_ .f32 0xFF800000#32) facts.reducesTo_S2x256x64x128_S2x256x64_d3 facts.h_S_

theorem amax_at (x : FVec Ideal S2x256x8192 .bf16) (b : Fin 2) (s : Fin 256) (g : Fin 64) : amax x (ix3 b s g) = amx x b s g := by
  pointwise [amax, amx]

/-- The condition on one block. -/
def tame (a : EReal) : BitVec 1 :=
  IntOp.ori (FloatOps.cmpf (F := Ideal) (φ := .f32) .oeq a (Ideal.ofBits .f32 0x00000000#32))
    (IntOp.andi (FloatOps.cmpf (F := Ideal) (φ := .f32) .oge (a * Ideal.ofBits .f32 0x3B124925#32) (Ideal.ofBits .f32 0x00400000#32))
      (FloatOps.cmpf (F := Ideal) (φ := .f32) .olt (a * Ideal.ofBits .f32 0x3B124925#32) (Ideal.ofBits .f32 0x7E800000#32)))

/-- The condition on all blocks, as the precondition takes it. -/
def tameV (A : FVec Ideal S2x256x64 .f32) : IVec S2x256x64 1 :=
  ori (cmpf .oeq A (broadcastInDim S2x256x64 ![] facts.bcast_S_S2x256x64 (constant S_ .f32 0x00000000#32)))
    (andi (cmpf .oge (mulf A (broadcastInDim S2x256x64 ![] facts.bcast_S_S2x256x64 (constant S_ .f32 0x3B124925#32))) (broadcastInDim S2x256x64 ![] facts.bcast_S_S2x256x64 (constant S_ .f32 0x00400000#32)))
      (cmpf .olt (mulf A (broadcastInDim S2x256x64 ![] facts.bcast_S_S2x256x64 (constant S_ .f32 0x3B124925#32))) (broadcastInDim S2x256x64 ![] facts.bcast_S_S2x256x64 (constant S_ .f32 0x7E800000#32))))

theorem tameV_at (A : FVec Ideal S2x256x64 .f32) (b : Fin 2) (s : Fin 256) (g : Fin 64) : tameV A (ix3 b s g) = tame (A (ix3 b s g)) := by
  pointwise [tameV, tame]

/-- The condition on the labels. -/
def labV (lab : IVec S2x256 32) : IVec S2x256 1 :=
  cmpi .slt lab (broadcastInDim S2x256 ![] facts.bcast_S_S2x256 (constantI S_ 32 16256#32))

theorem labV_at (lab : IVec S2x256 32) (b : Fin 2) (s : Fin 256) : labV lab (ix2 b s) = IntOp.cmpi .slt (lab (ix2 b s)) 16256#32 := by
  pointwise [labV]

section
variable (x : FVec Ideal S2x256x8192 .bf16) (w : FVec Ideal S16256x8192 .fp8e4m3) (ws : FVec Ideal S127x64 .f32) (lab : IVec S2x256 32)

theorem fn1_eq : (fn (F := Ideal) x w ws lab).1 = tameV (amax x) := by
  unfold fn tameV amax
  rfl

theorem fn2_eq : (fn (F := Ideal) x w ws lab).2 = labV lab := by
  unfold fn labV
  rfl

end

theorem tame_iff (a : EReal) (h : tame a = 1#1) :
    a = 0 ∨ (Ideal.ofBits .f32 0x00400000#32 ≤ Exponent.yOf a ∧ Exponent.yOf a < Ideal.ofBits .f32 0x7E800000#32) := by
  have h' : (BitVec.ofBool (decide (a = Ideal.ofBits .f32 0x00000000#32))
      ||| (BitVec.ofBool (decide (Ideal.ofBits .f32 0x00400000#32 ≤ Exponent.yOf a)) &&& BitVec.ofBool (decide (Exponent.yOf a < Ideal.ofBits .f32 0x7E800000#32)))) = 1#1 := h
  have z : Ideal.ofBits .f32 0x00000000#32 = 0 := by simp [Ideal.ofBits, Ideal.ieee]
  by_cases h0 : a = Ideal.ofBits .f32 0x00000000#32
  · exact Or.inl (h0.trans z)
  by_cases h1 : Ideal.ofBits .f32 0x00400000#32 ≤ Exponent.yOf a
  · by_cases h2 : Exponent.yOf a < Ideal.ofBits .f32 0x7E800000#32
    · exact Or.inr ⟨h1, h2⟩
    · rw [decide_eq_false h0, decide_eq_false h2, decide_eq_true h1] at h'
      exact absurd h' (by decide)
  · rw [decide_eq_false h0, decide_eq_false h1] at h'
    exact absurd h' (by cases decide (Exponent.yOf a < Ideal.ofBits .f32 0x7E800000#32) <;> decide)

theorem lab_lt (v : BitVec 32) (h : IntOp.cmpi .slt v 16256#32 = 1#1) (r : ℕ) (h1 : 16256 ≤ r) (h2 : r < 16384) : BitVec.ofNat 32 r ≠ v := by
  rintro rfl
  have h3 : BitVec.ofBool ((BitVec.ofNat 32 r).slt 16256#32) = 1#1 := h
  have h4 : (BitVec.ofNat 32 r).slt 16256#32 = false := by
    rw [BitVec.slt_eq_decide]
    refine decide_eq_false ?_
    rw [show (16256#32).toInt = 16256 from rfl, BitVec.toInt_eq_toNat_of_lt (by rw [BitVec.toNat_ofNat]; omega), BitVec.toNat_ofNat]
    omega
  rw [h4] at h3
  exact absurd h3 (by decide)

end Cert.Pre_pre.Hand

end
-- ==== Proof.Agree.lean ====
/-
  The kernel and the reference compute the same: codes, scales, logits, losses.
-/
module

public import proofs.«01_k».proof.Proof.ValueRun
public import proofs.«01_k».proof.Proof.RefRun
public import proofs.«01_k».proof.Proof.RefQuant
public import proofs.«01_k».proof.Proof.PreDecode

@[expose] public section

set_option maxRecDepth 16384

noncomputable section

namespace Cert.Agree

open Idealize.ShloMosaic Idealize.ShloMosaic.TcCoe
open Cert.KernelIdeal.Hand (amx codesV scaleV xwV codesV_at scaleV_at xwV_at aX aW aS aL)
open Cert.ReferenceIdeal.Gen (k0_pay4 k0_pay5 k0_pay6)

theorem ext2 {α : Type} {n0 n1 : ℕ} {f g : (⟨2, ![n0, n1]⟩ : Shape).Idx → α} (h : ∀ a b, f (ix2 a b) = g (ix2 a b)) : f = g := by
  funext y
  have e : y = ix2 (y 0) (y 1) := by funext i; fin_cases i <;> rfl
  rw [e]
  exact h _ _

theorem ext3 {α : Type} {n0 n1 n2 : ℕ} {f g : (⟨3, ![n0, n1, n2]⟩ : Shape).Idx → α} (h : ∀ a b c, f (ix3 a b c) = g (ix3 a b c)) : f = g := by
  funext y
  have e : y = ix3 (y 0) (y 1) (y 2) := by funext i; fin_cases i <;> rfl
  rw [e]
  exact h _ _ _

/-- Every block is zero or has a largest magnitude whose scaled value is in the range of normal exponents. -/
def Tame (X : Vec Ideal ⟨3, ![2, 256, 8192]⟩ .bf16) : Prop := ∀ (b : Fin 2) (s : Fin 256) (g : Fin 64),
  amx X b s g = 0 ∨ (Ideal.ofBits .f32 0x00400000#32 ≤ Exponent.yOf (amx X b s g) ∧ Exponent.yOf (amx X b s g) < Ideal.ofBits .f32 0x7E800000#32)

section
variable (X : Vec Ideal ⟨3, ![2, 256, 8192]⟩ .bf16) (hT : Tame X)
include hT

theorem scale_eq : k0_pay5 (F := Ideal) X = scaleV X := ext3 fun b s g => by
  rw [Cert.ReferenceIdeal.Hand.pay5_at, Cert.ReferenceIdeal.Hand.pay3_at, scaleV_at]
  exact (Exponent.scales _ (hT b s g)).1.symm

theorem codes_eq : k0_pay4 (F := Ideal) X = codesV X := ext3 fun b s d => by
  rw [Cert.ReferenceIdeal.Hand.pay4_at, Cert.ReferenceIdeal.Hand.pay3_at, codesV_at]
  exact congrArg (Cert.KernelIdeal.Hand.codeOf (X (ix3 b s d))) (Exponent.scales _ (hT b s ⟨d.val / 128, by omega⟩)).2.symm

theorem xw_eq (j : Fin 512) (k : Fin 8192) : Cert.ReferenceIdeal.Hand.xwR X (ix2 j k) = xwV X (ix2 j k) := by
  unfold Cert.ReferenceIdeal.Hand.xwR
  rw [Cert.ReferenceIdeal.Hand.pay7_at, Cert.ReferenceIdeal.Hand.pay6_at, codes_eq X hT, scale_eq X hT, xwV_at, scaleV_at]

end

section
open Cert.KernelIdeal Cert.KernelIdeal.Hand
variable (m : (ℓ : Loc nD τ sig) → Buf (Elt Ideal) ℓ) (c : Dev nD)

theorem kF_bot (j : Fin 512) (r : ℕ) (h : 16256 ≤ r) : kF m c j r = ⊥ := by
  unfold kF
  rw [dif_neg (by omega)]

/-- The logits. -/
theorem rF_eq (hT : Tame (aX m c)) (j : Fin 512) : Cert.ReferenceIdeal.Hand.rF (Cert.ReferenceIdeal.Hand.xwR (aX m c)) (aW m c) (aS m c) j = kF m c j := by
  funext r
  unfold Cert.ReferenceIdeal.Hand.rF kF
  by_cases h : r < 16256
  · rw [dif_pos h, dif_pos h]
    exact Finset.sum_congr rfl fun k _ => by rw [xw_eq (aX m c) hT, mul_comm]
  · rw [dif_neg h, dif_neg h]

/-- The logit at the label. -/
theorem atLab_eq (j : Fin 512) : Cert.ReferenceIdeal.Hand.atLab (Cert.ReferenceIdeal.Hand.labR (aL m c) (ix1 j)) (kF m c j) = kH m c j := by
  funext r
  unfold Cert.ReferenceIdeal.Hand.atLab kH Cert.ReferenceIdeal.Hand.labR
  rw [Cert.ReferenceIdeal.Hand.pay8_at, labV_at]

theorem loss_eq (hT : Tame (aX m c)) (hL : ∀ (b : Fin 2) (s : Fin 256), IntOp.cmpi .slt (aL m c (ix2 b s)) 16256#32 = 1#1) :
    Cert.ReferenceIdeal.Gen.out0_4 (F := Ideal) (aX m c) (aW m c) (aS m c) (aL m c) = lossR m c := ext2 fun b s => by
  have hb := kF_bot m c ⟨b.val * 256 + s.val, by omega⟩
  rw [Cert.ReferenceIdeal.Hand.out4_at _ _ _ _ b s ⟨b.val * 256 + s.val, by omega⟩ rfl, rF_eq m c hT, atLab_eq, lossR_at,
    Lse.allS_eq _ hb, Lse.allM_eq _ hb, Lse.allL_eq (kH m c ⟨b.val * 256 + s.val, by omega⟩) fun r h1 h2 => by
      unfold kH
      rw [if_neg]
      rw [labV_at]
      exact Cert.Pre_pre.Hand.lab_lt _ (hL _ _) r h1 h2]
  rfl

end

end Cert.Agree

end
-- ==== Proof.lean ====
/-
  The proof of `Cert.Claim` (Defs.lean). The frames of the kernel, as printed and idealized, are Proof/BitsFrames.lean and
  Proof/Frames.lean; the reference's frame is generated. What the kernel computes is Proof/ValueRun.lean, what the reference
  computes Proof/RefRun.lean, and that the two agree Proof/Agree.lean.
-/
module

public import proofs.«01_k».proof.Defs
public import proofs.«01_k».proof.Proof.BitsFrames
public import proofs.«01_k».proof.Proof.Frames
public import proofs.«01_k».proof.Proof.Agree
public import proofs.«01_k».proof.Proof.Gen.ReferenceIdeal.Frame

@[expose] public section

noncomputable section

namespace Cert.Proof

open Idealize.ShloMosaic Idealize.ShloMosaic.TcCoe
open Idealize.SL Idealize.SL.Sem

/-- The precondition, on every device: the blocks are tame and the labels below the vocabulary's size. -/
theorem tame_of (m : (ℓ : Loc Cert.KernelIdeal.nD Cert.KernelIdeal.τ Cert.KernelIdeal.sig) → Buf (Elt Ideal) ℓ)
    (h : Cert.Pre_KernelIdeal_pre (hPre_pre := Cert.Pre_pre.Hand.facts) m) (c : Dev Cert.KernelIdeal.nD) :
    Cert.Agree.Tame (Cert.KernelIdeal.Hand.aX m c)
      ∧ ∀ (b : Fin 2) (s : Fin 256), IntOp.cmpi .slt (Cert.KernelIdeal.Hand.aL m c (ix2 b s)) 16256#32 = 1#1 := by
  obtain ⟨h1, h2⟩ := h c
  rw [Cert.Pre_pre.Hand.fn1_eq] at h1
  rw [Cert.Pre_pre.Hand.fn2_eq] at h2
  refine ⟨fun b s g => Cert.Pre_pre.Hand.tame_iff _ ?_, fun b s => ?_⟩
  · have := congrFun h1 (ix3 b s g)
    rwa [Cert.Pre_pre.Hand.tameV_at, Cert.Pre_pre.Hand.amax_at] at this
  · have := congrFun h2 (ix2 b s)
    rwa [Cert.Pre_pre.Hand.labV_at] at this

/-- The kernel and the reference end with the same results. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Hand.facts) := by
  intro m g m' g' hpre hargs
  refine ⟨fun c => Cert.KernelIdeal.Hand.lossR m c, fun c => Cert.KernelIdeal.Hand.codesV (Cert.KernelIdeal.Hand.aX m c),
    fun c => Cert.KernelIdeal.Hand.scaleV (Cert.KernelIdeal.Hand.aX m c), Cert.KernelIdeal.Hand.value m g, ?_⟩
  refine (θ_run _ _ _).mono (fun r h c => ?_) (Cert.ReferenceIdeal.Hand.value m' g')
  obtain ⟨h0, h1, h2, h3⟩ := h c
  obtain ⟨a0, a1, a2, a3⟩ := hargs c
  obtain ⟨hT, hL⟩ := tame_of m hpre c
  refine ⟨h0.trans ?_, h1.trans ?_, h2.trans ?_, h3⟩
  · have e := Cert.Agree.loss_eq m c hT hL
    unfold Cert.ReferenceIdeal.Hand.rLoss
    rw [a0, a1, a2, a3]
    exact e
  · rw [a0]
    exact Cert.Agree.codes_eq _ hT
  · rw [a0]
    exact Cert.Agree.scale_eq _ hT

theorem claim : Cert.Claim :=
  ⟨Cert.Kernel.Gen.facts, Cert.KernelIdeal.Gen.facts, Cert.ReferenceIdeal.Gen.facts, Cert.Pre_pre.Hand.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial,
    algebraic⟩

end Cert.Proof

end
